-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x128x4608 : Shape := ⟨3, ![2, 128, 4608]⟩
abbrev S4608x7168 : Shape := ⟨2, ![4608, 7168]⟩
abbrev S144x7168 : Shape := ⟨2, ![144, 7168]⟩
abbrev S_ : Shape := ⟨0, ![]⟩

class Facts : Prop where
  bitsLt_bf16_f32 : FTy.bits .bf16 < FTy.bits .f32
  bcast_S_S2x128x4608 : S_.BroadcastsInDim S2x128x4608 (![] : Fin 0 → Fin S2x128x4608.rank)
  reducesTo_S2x128x4608_S_d0_1_2 : S2x128x4608.ReducesTo [0, 1, 2] S_
  h_S_ : 0 < S_.numel
  natLt_8_32 : 8 < 32
  bcast_S_S144x7168 : S_.BroadcastsInDim S144x7168 (![] : Fin 0 → Fin S144x7168.rank)
  reducesTo_S144x7168_S_d0_1 : S144x7168.ReducesTo [0, 1] S_

variable [Facts]

def fn {F : FTy → Type} [FloatOps F] (main_arg0 : FVec F S2x128x4608 .bf16) (main_arg1 : FVec F S4608x7168 .fp8e4m3) (main_arg2 : IVec S144x7168 8) : IVec S_ 1 :=
  let main_v0 : FVec F S2x128x4608 .f32 := (extf .f32 · bitsLt_bf16_f32) main_arg0
  let main_v1 : FVec F S2x128x4608 .f32 := Host.absf main_v0
  let main_cst : FVec F S_ .f32 := constant S_ .f32 0x7F7F0000#32
  let main_v2 : FVec F S2x128x4608 .f32 := broadcastInDim S2x128x4608 ![] bcast_S_S2x128x4608 main_cst
  let main_v3 : IVec S2x128x4608 1 := cmpf .ole main_v1 main_v2
  let main_c : IVec S_ 1 := constantI S_ 1 1#1
  let main_v4 : IVec S_ 1 := (fun x v => Host.reduce IntOp.andi x v reducesTo_S2x128x4608_S_d0_1_2 h_S_) main_v3 main_c
  let main_v5 : IVec S144x7168 32 := (extui 32 · natLt_8_32) main_arg2
  let main_c_0 : IVec S_ 32 := constantI S_ 32 1#32
  let main_v6 : IVec S144x7168 32 := broadcastInDim S144x7168 ![] bcast_S_S144x7168 main_c_0
  let main_v7 : IVec S144x7168 1 := cmpi .sge main_v5 main_v6
  let main_v8 : IVec S144x7168 32 := (extui 32 · natLt_8_32) main_arg2
  let main_c_1 : IVec S_ 32 := constantI S_ 32 254#32
  let main_v9 : IVec S144x7168 32 := broadcastInDim S144x7168 ![] bcast_S_S144x7168 main_c_1
  let main_v10 : IVec S144x7168 1 := cmpi .sle main_v8 main_v9
  let main_v11 : IVec S144x7168 1 := andi main_v7 main_v10
  let main_c_2 : IVec S_ 1 := constantI S_ 1 1#1
  let main_v12 : IVec S_ 1 := (fun x v => Host.reduce IntOp.andi x v reducesTo_S144x7168_S_d0_1 h_S_) main_v11 main_c_2
  let main_v13 : IVec S_ 1 := andi main_v4 main_v12
  main_v13
-- ==== Kernel.lean ====
abbrev S2x128x4608 : Shape := ⟨3, ![2, 128, 4608]⟩
abbrev S4608x7168 : Shape := ⟨2, ![4608, 7168]⟩
abbrev S144x7168 : Shape := ⟨2, ![144, 7168]⟩
abbrev S256x4608 : Shape := ⟨2, ![256, 4608]⟩
abbrev S256x7168 : Shape := ⟨2, ![256, 7168]⟩
abbrev S256x144 : Shape := ⟨2, ![256, 144]⟩
abbrev S4608x512 : Shape := ⟨2, ![4608, 512]⟩
abbrev S144x512 : Shape := ⟨2, ![144, 512]⟩
abbrev S256x512 : Shape := ⟨2, ![256, 512]⟩
abbrev S256x128 : Shape := ⟨2, ![256, 128]⟩
abbrev S256x128x1 : Shape := ⟨3, ![256, 128, 1]⟩
abbrev S256x16 : Shape := ⟨2, ![256, 16]⟩
abbrev S512x512 : Shape := ⟨2, ![512, 512]⟩
abbrev S16x512 : Shape := ⟨2, ![16, 512]⟩
abbrev S16x32x512 : Shape := ⟨3, ![16, 32, 512]⟩
abbrev S16x1x512 : Shape := ⟨3, ![16, 1, 512]⟩

abbrev nBuf : Space → Nat
  | .hbm => 7
  | .vmem => 10
  | .smem => 0
  | _ => 0

abbrev bufTy : (tb : Table) → Fin (tcTables nBuf tb) → BufTy
  | .hbm, ⟨0, _⟩ => ⟨S2x128x4608, .bf16⟩
  | .hbm, ⟨1, _⟩ => ⟨S4608x7168, .fp8e4m3⟩
  | .hbm, ⟨2, _⟩ => ⟨S144x7168, .i8⟩
  | .hbm, ⟨3, _⟩ => ⟨S256x4608, .bf16⟩
  | .hbm, ⟨4, _⟩ => ⟨S256x7168, .bf16⟩
  | .hbm, ⟨5, _⟩ => ⟨S256x4608, .fp8e4m3⟩
  | .hbm, ⟨6, _⟩ => ⟨S256x144, .i8⟩
  | .local _ .vmem, ⟨0, _⟩ => ⟨S256x4608, .bf16⟩
  | .local _ .vmem, ⟨1, _⟩ => ⟨S4608x512, .fp8e4m3⟩
  | .local _ .vmem, ⟨2, _⟩ => ⟨S4608x512, .fp8e4m3⟩
  | .local _ .vmem, ⟨3, _⟩ => ⟨S144x512, .i8⟩
  | .local _ .vmem, ⟨4, _⟩ => ⟨S144x512, .i8⟩
  | .local _ .vmem, ⟨5, _⟩ => ⟨S256x512, .bf16⟩
  | .local _ .vmem, ⟨6, _⟩ => ⟨S256x512, .bf16⟩
  | .local _ .vmem, ⟨7, _⟩ => ⟨S256x4608, .fp8e4m3⟩
  | .local _ .vmem, ⟨8, _⟩ => ⟨S256x144, .i8⟩
  | .local _ .vmem, ⟨9, _⟩ => ⟨S256x4608, .bf16⟩
  | _, _ => ⟨S2x128x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4608x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S144x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x4608 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x144 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S2x128x4608 : Shape := ⟨3, ![2, 128, 4608]⟩
abbrev S4608x7168 : Shape := ⟨2, ![4608, 7168]⟩
abbrev S144x7168 : Shape := ⟨2, ![144, 7168]⟩
abbrev S256x4608 : Shape := ⟨2, ![256, 4608]⟩
abbrev S256x7168 : Shape := ⟨2, ![256, 7168]⟩
abbrev S256x144 : Shape := ⟨2, ![256, 144]⟩
abbrev S256x144x32 : Shape := ⟨3, ![256, 144, 32]⟩
abbrev S256x144x254 : Shape := ⟨3, ![256, 144, 254]⟩
abbrev S256x144x1 : Shape := ⟨3, ![256, 144, 1]⟩
abbrev S144x32x7168 : Shape := ⟨3, ![144, 32, 7168]⟩
abbrev S144x1x7168 : Shape := ⟨3, ![144, 1, 7168]⟩

abbrev nBuf : Space → Nat
  | .hbm => 7
  | .vmem => 6
  | .smem => 0
  | _ => 0

abbrev bufTy : (tb : Table) → Fin (tcTables nBuf tb) → BufTy
  | .hbm, ⟨0, _⟩ => ⟨S2x128x4608, .bf16⟩
  | .hbm, ⟨1, _⟩ => ⟨S4608x7168, .fp8e4m3⟩
  | .hbm, ⟨2, _⟩ => ⟨S144x7168, .i8⟩
  | .hbm, ⟨3, _⟩ => ⟨S256x4608, .bf16⟩
  | .hbm, ⟨4, _⟩ => ⟨S256x7168, .bf16⟩
  | .hbm, ⟨5, _⟩ => ⟨S256x4608, .fp8e4m3⟩
  | .hbm, ⟨6, _⟩ => ⟨S256x144, .i8⟩
  | .local _ .vmem, ⟨0, _⟩ => ⟨S256x4608, .bf16⟩
  | .local _ .vmem, ⟨1, _⟩ => ⟨S4608x7168, .fp8e4m3⟩
  | .local _ .vmem, ⟨2, _⟩ => ⟨S144x7168, .i8⟩
  | .local _ .vmem, ⟨3, _⟩ => ⟨S256x7168, .bf16⟩
  | .local _ .vmem, ⟨4, _⟩ => ⟨S256x4608, .fp8e4m3⟩
  | .local _ .vmem, ⟨5, _⟩ => ⟨S256x144, .i8⟩
  | _, _ => ⟨S2x128x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S144x7168 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x4608 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x144 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.BitsPoints.lean ====
/- For the kernel at machine floats: What the kernel body is called with at a grid point: the condition of its one branch in closed form, the staging buffers and
   the scratch buffer. -/
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's branch conditions -/

/-- The condition of the body's `scf.if` 0 (`k0_h1`), from the grid coordinates. -/
abbrev cond0_0 (i : grid0.Coords) : Prop := k0_cond1 i = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x4608 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4608x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S144x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x4608 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x144 .i8 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S256x4608 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Body

end
-- ==== Proof.BitsRunB.lean ====
/- For the kernel at machine floats: The kernel body run at a grid point after the first. -/
module

public import proofs.«01_k».proof.Proof.BitsPoints

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 2000000 in
/-- At every later grid point (the branch not taken) the body, on whole buffers — the inputs and the scratch at their contents,
    the codes' and scales' buffers at contents it does not touch, the first output at anything — runs to its end and leaves all
    of them as they were but the first output, which holds the pieces stored into it. -/
def runB (c : Dev nD) (i : grid0.Coords) (arg1 : Memref sig .tc .vmem S256x4608 .bf16) (harg1 : arg1.IsWhole) (arg2 : Memref sig .tc .vmem S4608x512 .fp8e4m3) (harg2 : arg2.IsWhole) (arg3 : Memref sig .tc .vmem S144x512 .i8) (harg3 : arg3.IsWhole) (arg4 : Memref sig .tc .vmem S256x512 .bf16) (harg4 : arg4.IsWhole) (arg5 : Memref sig .tc .vmem S256x4608 .fp8e4m3) (harg5 : arg5.IsWhole) (arg6 : Memref sig .tc .vmem S256x144 .i8) (harg6 : arg6.IsWhole) (arg7 : Memref sig .tc .vmem S256x4608 .bf16) (harg7 : arg7.IsWhole) (hc0 : ¬cond0_0 i)
    (x0 : Vec F S256x4608 .bf16) (x1 : Vec F S4608x512 .fp8e4m3) (x2 : Vec F S144x512 .i8) (xs : Vec F S256x4608 .bf16) :
    { L3 : List (View.Piece (Elt F) S256x512 .bf16) //
      ∀ (x4 : Vec F S256x4608 .fp8e4m3) (x5 : Vec F S256x144 .i8) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare x5 ∗ owns (c : Thread nD τ) arg7 fullShare xs
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare x4 ∗ owns (c : Thread nD τ) arg6 fullShare x5 ∗ owns (c : Thread nD τ) arg7 fullShare xs) -∗ K ⟨⟩))
          ⊢ wp frame (wpE (defs₀ (F := F)) Variants.none c none) E (cc0_mxfp8_dgrad i arg1 harg1 arg2 harg2 arg3 harg3 arg4 harg4 arg5 harg5 arg6 harg6 arg7 harg7) K } := by
  refine ⟨?_, fun x4 x5 E K => ?run⟩
  case run =>
    simp only [cc0_mxfp8_dgrad_eq_skeleton]; unfold cc0_mxfp8_dgrad_skel
    simp only [k0_part151_eq_skeleton, k0_part152_eq_skeleton, k0_part153_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2
    obtain rfl := harg5.eq_unread hf4; obtain rfl := harg6.eq_unread hf5; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    iexists _; isplitr; · ipureintro; exact harg7.read_unread _
    iexact HS0

end Cert.Kernel.Body

end
-- ==== Proof.BitsRunA.lean ====
/- For the kernel at machine floats: The kernel body run at the first grid point. -/
module

public import proofs.«01_k».proof.Proof.BitsRunB

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 6000000 in
/-- At the first grid point (the branch taken) the body, on whole buffers — the three inputs at their contents, the outputs
    and the scratch at anything — runs to its end and leaves the inputs as they were; the three outputs and the scratch hold
    the pieces stored into them, which the run finds. -/
def runA (c : Dev nD) (i : grid0.Coords) (arg1 : Memref sig .tc .vmem S256x4608 .bf16) (harg1 : arg1.IsWhole) (arg2 : Memref sig .tc .vmem S4608x512 .fp8e4m3) (harg2 : arg2.IsWhole) (arg3 : Memref sig .tc .vmem S144x512 .i8) (harg3 : arg3.IsWhole) (arg4 : Memref sig .tc .vmem S256x512 .bf16) (harg4 : arg4.IsWhole) (arg5 : Memref sig .tc .vmem S256x4608 .fp8e4m3) (harg5 : arg5.IsWhole) (arg6 : Memref sig .tc .vmem S256x144 .i8) (harg6 : arg6.IsWhole) (arg7 : Memref sig .tc .vmem S256x4608 .bf16) (harg7 : arg7.IsWhole) (hc0 : cond0_0 i)
    (x0 : Vec F S256x4608 .bf16) (x1 : Vec F S4608x512 .fp8e4m3) (x2 : Vec F S144x512 .i8) :
    Σ' (L3 : List (View.Piece (Elt F) S256x512 .bf16)) (L4 : List (View.Piece (Elt F) S256x4608 .fp8e4m3)) (L5 : List (View.Piece (Elt F) S256x144 .i8)), { LS : List (View.Piece (Elt F) S256x4608 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS)) -∗ K ⟨⟩))
          ⊢ wp frame (wpE (defs₀ (F := F)) Variants.none c none) E (cc0_mxfp8_dgrad i arg1 harg1 arg2 harg2 arg3 harg3 arg4 harg4 arg5 harg5 arg6 harg6 arg7 harg7) K } := by
  refine ⟨?_, ?_, ?_, ?_, fun E K => ?run⟩
  case run =>
    simp only [cc0_mxfp8_dgrad_eq_skeleton]; unfold cc0_mxfp8_dgrad_skel
    simp only [k0_part151_eq_skeleton, k0_part148_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part149_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part150_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part152_eq_skeleton, k0_part153_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    iexists _; iexact HS0

end Cert.Kernel.Body

end
-- ==== Proof.BitsTile.lean ====
/- For the kernel at machine floats: The quantiser of one tile of 128 lanes, as the kernel computes it, named step by step. -/
module

public import proofs.«01_k».proof.Proof.BitsPoints

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

/-- The lane number. -/
def lane : IVec S256x128 32 := iota .tc S256x128 32 [1] iota_S256x128_d1_w32

/-- A table of lanes as the gather reads it: a negative lane counts from the end. -/
def wrap (p : IVec S256x128 32) : IVec S256x128 32 :=
  shapeCast S256x128
    (shapeCast S256x128x1
      (select (cmpi .slt p (broadcast S256x128 0#32)) (addi p (broadcast S256x128 128#32)) p)
      shapeCasts_S256x128_S256x128x1)
    shapeCasts_S256x128x1_S256x128

/-- Every lane's maximum with the lane whose number differs in the bits of `s`. -/
def hop (s : BitVec 32) (m : FVec F S256x128 .f32) : FVec F S256x128 .f32 :=
  maximumf m (dynamicGather 1 m (wrap (xori lane (broadcast S256x128 s))))

/-- A tile's values in float32. -/
def wide (x : Vec F S256x128 .bf16) : FVec F S256x128 .f32 :=
  extf .f32 (shapeCast S256x128 x shapeCasts_S256x128_S256x128) bitsLt_bf16_f32

/-- The largest absolute value of the lane's block. -/
def block (x : Vec F S256x128 .bf16) : FVec F S256x128 .f32 :=
  hop 16#32 (hop 8#32 (hop 4#32 (hop 2#32 (hop 1#32 (absf (wide x))))))

/-- That maximum over the largest code. -/
def ratio (x : Vec F S256x128 .bf16) : FVec F S256x128 .f32 :=
  mulf (block x) (broadcast S256x128 (Scalar.ofBits .f32 0x3B124925#32))

/-- One step of the search: bit `b` of the exponent field stays when the float of that field is not above `r`. -/
def probe (r : FVec F S256x128 .f32) (b : BitVec 32) (f : IVec S256x128 32) : IVec S256x128 32 :=
  select (cmpf .olt r (bitcastToFloat .f32 (shli (ori f (broadcast S256x128 b)) (broadcast S256x128 23#32)))) f
    (ori f (broadcast S256x128 b))

/-- The exponent field of `r`. -/
def field (r : FVec F S256x128 .f32) : IVec S256x128 32 :=
  probe r 1#32 (probe r 2#32 (probe r 4#32 (probe r 8#32 (probe r 16#32 (probe r 32#32 (probe r 64#32
    (probe r 128#32 (broadcast S256x128 0#32))))))))

/-- The exponent of the lane's block. -/
def expo (x : Vec F S256x128 .bf16) : IVec S256x128 32 :=
  select (cmpf .oeq (ratio x) (broadcast S256x128 (Scalar.ofBits .f32 0x00000000#32))) (broadcast S256x128 0#32)
    (subi (field (ratio x)) (broadcast S256x128 126#32))

/-- Two to the power `e`, as the float whose exponent field is `e + 127`. -/
def pow2 (e : IVec S256x128 32) : FVec F S256x128 .f32 :=
  bitcastToFloat .f32 (shli (addi e (broadcast S256x128 127#32)) (broadcast S256x128 23#32))

/-- A tile's codes. -/
def codesT (x : Vec F S256x128 .bf16) : FVec F S256x128 .fp8e4m3 :=
  truncf .fp8e4m3
    (minimumf (broadcast S256x128 (Scalar.ofBits .f32 0x43E00000#32))
      (maximumf (broadcast S256x128 (Scalar.ofBits .f32 0xC3E00000#32))
        (mulf (wide x) (pow2 (subi (broadcast S256x128 0#32) (expo x))))))
    bitsLt_fp8e4m3_f32

/-- A tile's values as the codes and the exponents give them back. -/
def deqT (x : Vec F S256x128 .bf16) : FVec F S256x128 .bf16 :=
  shapeCast S256x128
    (truncf .bf16 (mulf (extf .f32 (codesT x) bitsLt_fp8e4m3_f32) (pow2 (expo x))) bitsLt_bf16_f32)
    shapeCasts_S256x128_S256x128

/-- The lane number modulo four, as the kernel computes it. -/
def lane4 : IVec S256x128 32 :=
  select
    (andi
      (xori (cmpi .slt (remsi lane (broadcast S256x128 4#32)) (broadcast S256x128 0#32))
        (broadcastTo S256x128 (broadcast S256x128 (Scalar.cmpi .slt 4#32 0#32)) broadcasts_S256x128_S256x128))
      (cmpi .ne (remsi lane (broadcast S256x128 4#32)) (broadcast S256x128 0#32)))
    (addi (remsi lane (broadcast S256x128 4#32)) (broadcast S256x128 4#32))
    (remsi lane (broadcast S256x128 4#32))

/-- A tile's scales, four of them repeated over the lanes. -/
def pieceT (x : Vec F S256x128 .bf16) : IVec S256x128 32 :=
  dynamicGather 1 (addi (expo x) (broadcast S256x128 127#32)) (wrap (muli lane4 (broadcast S256x128 32#32)))

end Cert.Kernel.Body
-- ==== Proof.BitsTiles.lean ====
/- For the kernel at machine floats: What the body's run stores, in terms of the tiles and chunks of its operands. -/
module

public import proofs.«01_k».proof.Proof.BitsRunA
public import proofs.«01_k».proof.Proof.BitsTile

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

/-- The 128 columns of tile `t`. -/
def tileRect (t : Fin 36) : Rect S256x4608 :=
  Rect.unit (s := S256x4608) ![0, 128 * t.val] S256x128.size (by
    have := t.isLt
    intro a; fin_cases a
    · show 0 + 256 ≤ 256; omega
    · show 128 * t.val + 128 ≤ 4608; omega)

/-- Tile `t` of the whole operand. -/
def tileOf {e : EltTy} (X : Vec F S256x4608 e) (t : Fin 36) : Vec F S256x128 e := View.ld X (tileRect t)

/-- The tiles, the last one first. -/
def tilesDown : List (Fin 36) :=
  [35, 34, 33, 32, 31, 30, 29, 28, 27, 26, 25, 24, 23, 22, 21, 20, 19, 18, 17, 16, 15, 14, 13, 12, 11, 10, 9, 8, 7, 6, 5, 4, 3, 2, 1, 0]

/-- The stores of a function `q` of each tile, the last one first. -/
def piecesOf {e : EltTy} (q : Vec F S256x128 .bf16 → Vec F S256x128 e) (X : Vec F S256x4608 .bf16) :
    List (View.Piece (Elt F) S256x4608 e) :=
  tilesDown.map fun t => ⟨tileRect t, q (tileOf X t)⟩

/-- A tile's four scales put over the lanes from `lo` up to `hi`. -/
def put (lo hi : BitVec 32) (p acc : IVec S256x128 32) : IVec S256x128 32 :=
  select (andi (cmpi .sge lane (broadcast S256x128 lo)) (cmpi .slt lane (broadcast S256x128 hi))) p acc

/-- The scales of the tiles of `l`, numbered from `base`, side by side. -/
def gather4 (P : Fin 36 → IVec S256x128 32) (base : ℕ) (l : List (Fin 36)) : IVec S256x128 32 :=
  l.foldl (fun acc t => put (BitVec.ofNat 32 (4 * (t.val - base))) (BitVec.ofNat 32 (4 * (t.val - base) + 4)) (P t) acc)
    (broadcast S256x128 0#32)

/-- The two stores of the scales, the last one first. -/
def scalePieces (P : Fin 36 → IVec S256x128 32) : List (View.Piece (Elt F) S256x144 .i8) :=
  [⟨Rect.unit (s := S256x144) ![0, 128] S256x16.size inb_S256x144_S256x16_0_128,
      trunci 8 (extractStridedSlice S256x16 ![0, 0] (gather4 P 32 [32, 33, 34, 35]) slices_S256x128_o0_0_S256x16) natLt_8_32⟩,
    ⟨Rect.unit (s := S256x144) ![0, 0] S256x128.size inb_S256x144_S256x128_0_0,
      trunci 8 (gather4 P 0 [0, 1, 2, 3, 4, 5, 6, 7, 8, 9, 10, 11, 12, 13, 14, 15, 16, 17, 18, 19, 20, 21, 22, 23, 24, 25, 26, 27, 28, 29, 30, 31]) natLt_8_32⟩]

/-- A chunk of 512 rows of weights: each code times the power of two of its block's scale byte. -/
def weightsC (w : Vec F S512x512 .fp8e4m3) (s : Vec F S16x512 .i8) : FVec F S512x512 .bf16 :=
  shapeCast S512x512
    (mulf (shapeCast S16x32x512 (extf .bf16 w bitsLt_fp8e4m3_bf16 : FVec F S512x512 .bf16) shapeCasts_S512x512_S16x32x512)
      (broadcastTo S16x32x512
        (shapeCast S16x1x512
          (truncf .bf16 (bitcastToFloat .f32 (shli (extui 32 s natLt_8_32) (broadcast S16x512 23#32)) : FVec F S16x512 .f32)
            bitsLt_bf16_f32)
          shapeCasts_S16x512_S16x1x512)
        broadcasts_S16x1x512_S16x32x512))
    shapeCasts_S16x32x512_S512x512

/-- Chunk `k`'s product. -/
def chunkDot (d : Vec F S256x512 .bf16) (w : Vec F S512x512 .fp8e4m3) (s : Vec F S16x512 .i8) : FVec F S256x512 .f32 :=
  matmul dot_S256x512_S512x512_S256x512_1_0_0_1_n_n none d (weightsC w s) (constant S256x512 .f32 0x00000000#32)

/-- The columns of chunk `k` of the dequantised operand, -/
def colRect (k : Fin 9) : Rect S256x4608 :=
  Rect.unit (s := S256x4608) ![0, 512 * k.val] S256x512.size (by
    have := k.isLt
    intro a; fin_cases a
    · show 0 + 256 ≤ 256; omega
    · show 512 * k.val + 512 ≤ 4608; omega)

/-- the rows of chunk `k` of the weights' codes, -/
def rowRect (k : Fin 9) : Rect S4608x512 :=
  Rect.unit (s := S4608x512) ![512 * k.val, 0] S512x512.size (by
    have := k.isLt
    intro a; fin_cases a
    · show 512 * k.val + 512 ≤ 4608; omega
    · show 0 + 512 ≤ 512; omega)

/-- and of their scales. -/
def srowRect (k : Fin 9) : Rect S144x512 :=
  Rect.unit (s := S144x512) ![16 * k.val, 0] S16x512.size (by
    have := k.isLt
    intro a; fin_cases a
    · show 16 * k.val + 16 ≤ 144; omega
    · show 0 + 512 ≤ 512; omega)

/-- The first output's block from the chunks of the dequantised operand: the chunks' products added up in order. -/
def dxChunks (D : Fin 9 → Vec F S256x512 .bf16) (W : Vec F S4608x512 .fp8e4m3) (S : Vec F S144x512 .i8) : FVec F S256x512 .bf16 :=
  truncf .bf16
    (([0, 1, 2, 3, 4, 5, 6, 7, 8] : List (Fin 9)).foldl
      (fun acc k => addf acc (chunkDot (D k) (View.ld W (rowRect k)) (View.ld S (srowRect k))))
      (broadcast S256x512 (Scalar.ofBits .f32 0x00000000#32) : FVec F S256x512 .f32))
    bitsLt_bf16_f32

/-- Its one store. -/
def dxPieces (x : FVec F S256x512 .bf16) : List (View.Piece (Elt F) S256x512 .bf16) :=
  [⟨Rect.unit (s := S256x512) ![0, 0] S256x512.size inb_S256x512_S256x512_0_0, x⟩]

section
variable (c : Dev nD) (i : grid0.Coords) (arg1 : Memref sig .tc .vmem S256x4608 .bf16) (harg1 : arg1.IsWhole) (arg2 : Memref sig .tc .vmem S4608x512 .fp8e4m3) (harg2 : arg2.IsWhole) (arg3 : Memref sig .tc .vmem S144x512 .i8) (harg3 : arg3.IsWhole) (arg4 : Memref sig .tc .vmem S256x512 .bf16) (harg4 : arg4.IsWhole) (arg5 : Memref sig .tc .vmem S256x4608 .fp8e4m3) (harg5 : arg5.IsWhole) (arg6 : Memref sig .tc .vmem S256x144 .i8) (harg6 : arg6.IsWhole) (arg7 : Memref sig .tc .vmem S256x4608 .bf16) (harg7 : arg7.IsWhole)
  (x0 : Vec F S256x4608 .bf16) (x1 : Vec F S4608x512 .fp8e4m3) (x2 : Vec F S144x512 .i8) (xs : Vec F S256x4608 .bf16)

set_option maxHeartbeats 2000000 in
/-- The codes' stores at the first point. -/
theorem runA_codes' (hc0 : cond0_0 i) : (runA c i arg1 harg1 arg2 harg2 arg3 harg3 arg4 harg4 arg5 harg5 arg6 harg6 arg7 harg7 hc0 x0 x1 x2).2.1 = piecesOf codesT (arg1.view.read (Elt F) (harg1.unread x0)) := by
  sl_kernel_rfl

/-- The scratch's stores at the first point. -/
theorem runA_deq' (hc0 : cond0_0 i) : (runA c i arg1 harg1 arg2 harg2 arg3 harg3 arg4 harg4 arg5 harg5 arg6 harg6 arg7 harg7 hc0 x0 x1 x2).2.2.2.1 = piecesOf deqT (arg1.view.read (Elt F) (harg1.unread x0)) := by
  sl_kernel_rfl

/-- The scales' stores at the first point. -/
theorem runA_scale' (hc0 : cond0_0 i) : (runA c i arg1 harg1 arg2 harg2 arg3 harg3 arg4 harg4 arg5 harg5 arg6 harg6 arg7 harg7 hc0 x0 x1 x2).2.2.1 = scalePieces fun t => pieceT (tileOf (arg1.view.read (Elt F) (harg1.unread x0)) t) := by
  sl_kernel_rfl

/-- The scratch's stores, as the loads of the first point find them. -/
theorem runA_scratch : runA.sl.HS0_36 c arg1 harg1 x0 = piecesOf deqT (arg1.view.read (Elt F) (harg1.unread x0)) := by
  sl_kernel_rfl

/-- The first output's store at the first point. -/
theorem runA_dx' (hc0 : cond0_0 i) : (runA c i arg1 harg1 arg2 harg2 arg3 harg3 arg4 harg4 arg5 harg5 arg6 harg6 arg7 harg7 hc0 x0 x1 x2).1 = dxPieces (dxChunks (fun k => arg7.view.readCov (runA.sl.HS0_36 c arg1 harg1 x0) (colRect k).toLoadRect) (arg2.view.read (Elt F) (harg2.unread x1)) (arg3.view.read (Elt F) (harg3.unread x2))) := by
  sl_kernel_rfl

/-- The first output's store at a later point. -/
theorem runB_dx' (hc0 : ¬cond0_0 i) : (runB c i arg1 harg1 arg2 harg2 arg3 harg3 arg4 harg4 arg5 harg5 arg6 harg6 arg7 harg7 hc0 x0 x1 x2 xs).1 = dxPieces (dxChunks (fun k => View.ld (arg7.view.read (Elt F) (harg7.unread xs)) (colRect k)) (arg2.view.read (Elt F) (harg2.unread x1)) (arg3.view.read (Elt F) (harg3.unread x2))) := by
  sl_kernel_rfl
end

end Cert.Kernel.Body
-- ==== Proof.BitsSteps.lean ====
/- For the kernel at machine floats: One point of the kernel's grid, in closed form. -/
module

public import proofs.«01_k».proof.Proof.BitsTiles
public import Idealize.ShloMosaic.Lib.Claim
public import Idealize.ShloMosaic.Lib.Pipeline.TableIdle

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## What the outputs and the scratch hold, in closed form -/

/-- The codes of an operand. -/
def codesOf (X : Vec F S256x4608 .bf16) : Vec F S256x4608 .fp8e4m3 := View.canon (piecesOf codesT X)
/-- The operand as codes and exponents give it back. -/
def deqOf (X : Vec F S256x4608 .bf16) : Vec F S256x4608 .bf16 := View.canon (piecesOf deqT X)
/-- The scales of an operand. -/
def scaleOf (X : Vec F S256x4608 .bf16) : Vec F S256x144 .i8 := View.canon (scalePieces (F := F) fun t => pieceT (tileOf X t))
/-- The first output's block, from the dequantised operand and a block of weights. -/
def dxOf (D : Vec F S256x4608 .bf16) (W : Vec F S4608x512 .fp8e4m3) (S : Vec F S144x512 .i8) : Vec F S256x512 .bf16 :=
  dxChunks (fun k => View.ld D (colRect k)) W S

/-- Every element lies in some tile. -/
theorem cover_pieces {e : EltTy} (q : Vec F S256x128 .bf16 → Vec F S256x128 e) (X : Vec F S256x4608 .bf16) (y : S256x4608.Idx) :
    ∃ p ∈ piecesOf q X, y ∈ p.1.set :=
  View.cover_of_tiledL (piecesOf q X) S256x128.size (by sl_kernel_rfl) y

/-- Every scale lies in one of the two stores. -/
theorem cover_scale (P : Fin 36 → IVec S256x128 32) (y : S256x144.Idx) :
    ∃ p ∈ scalePieces (F := F) P, y ∈ p.1.set :=
  View.cover_of_tiledBy (scalePieces (F := F) P) S256x16.size (by sl_kernel_rfl) y

/-- The first output's store covers its block. -/
theorem cover_dx (x : FVec F S256x512 .bf16) (y : S256x512.Idx) : ∃ p ∈ dxPieces x, y ∈ p.1.set :=
  View.cover_of_tiledL (dxPieces x) S256x512.size (by sl_kernel_rfl) y

theorem canon_dx (x : FVec F S256x512 .bf16) : View.canon (dxPieces x) = x :=
  View.canon_unit_zero (Val := Elt F) (e := .bf16) (S := S256x512) (off := ![0, 0]) (by funext a; fin_cases a <;> rfl)
    inb_S256x512_S256x512_0_0 x

/-! ## The run's stores, in closed form -/

section
variable (c : Dev nD) (i : grid0.Coords) (arg1 : Memref sig .tc .vmem S256x4608 .bf16) (harg1 : arg1.IsWhole) (arg2 : Memref sig .tc .vmem S4608x512 .fp8e4m3) (harg2 : arg2.IsWhole) (arg3 : Memref sig .tc .vmem S144x512 .i8) (harg3 : arg3.IsWhole) (arg4 : Memref sig .tc .vmem S256x512 .bf16) (harg4 : arg4.IsWhole) (arg5 : Memref sig .tc .vmem S256x4608 .fp8e4m3) (harg5 : arg5.IsWhole) (arg6 : Memref sig .tc .vmem S256x144 .i8) (harg6 : arg6.IsWhole) (arg7 : Memref sig .tc .vmem S256x4608 .bf16) (harg7 : arg7.IsWhole)
  (x0 : Vec F S256x4608 .bf16) (x1 : Vec F S4608x512 .fp8e4m3) (x2 : Vec F S144x512 .i8) (xs : Vec F S256x4608 .bf16)

theorem runA_codes (hc0 : cond0_0 i) : (runA c i arg1 harg1 arg2 harg2 arg3 harg3 arg4 harg4 arg5 harg5 arg6 harg6 arg7 harg7 hc0 x0 x1 x2).2.1 = piecesOf codesT x0 := by
  rw [runA_codes', harg1.read_unread]

theorem runA_deq (hc0 : cond0_0 i) : (runA c i arg1 harg1 arg2 harg2 arg3 harg3 arg4 harg4 arg5 harg5 arg6 harg6 arg7 harg7 hc0 x0 x1 x2).2.2.2.1 = piecesOf deqT x0 := by
  rw [runA_deq', harg1.read_unread]

theorem runA_scale (hc0 : cond0_0 i) : (runA c i arg1 harg1 arg2 harg2 arg3 harg3 arg4 harg4 arg5 harg5 arg6 harg6 arg7 harg7 hc0 x0 x1 x2).2.2.1 = scalePieces fun t => pieceT (tileOf x0 t) := by
  rw [runA_scale', harg1.read_unread]

theorem runA_dx (hc0 : cond0_0 i) : (runA c i arg1 harg1 arg2 harg2 arg3 harg3 arg4 harg4 arg5 harg5 arg6 harg6 arg7 harg7 hc0 x0 x1 x2).1 = dxPieces (dxOf (deqOf x0) x1 x2) := by
  rw [runA_dx', harg2.read_unread, harg3.read_unread, runA_scratch, harg1.read_unread]
  unfold dxOf deqOf
  congr 2
  funext k
  exact View.readCov_eq_canon' _ _ _

theorem runB_dx (hc0 : ¬cond0_0 i) : (runB c i arg1 harg1 arg2 harg2 arg3 harg3 arg4 harg4 arg5 harg5 arg6 harg6 arg7 harg7 hc0 x0 x1 x2 xs).1 = dxPieces (dxOf xs x1 x2) := by
  rw [runB_dx', harg2.read_unread, harg3.read_unread, harg7.read_unread]; rfl
end

/-! ## One point, in closed form -/

/-- The stores `L` leave what they are the canon of. -/
theorem owns_canon {s : Shape} {e : EltTy} (c : Dev nD) (a : Memref sig .tc .vmem s e) (L : List (View.Piece (Elt F) s e))
    (hL : ∀ y, ∃ p ∈ L, y ∈ p.1.set) :
    iprop(∃ f, a.view.loc (c : Thread nD τ) ↦[a.view.set]{fullShare} a.view.writes (Elt F) f L)
      ⊢ (owns (c : Thread nD τ) a fullShare (View.canon L) : sProp 𝕄) := by
  unfold owns; iintro ⟨%f, H⟩; iexists _; isplitr
  swap; · iexact H
  ipureintro; exact View.read_writes_eq_canon _ _ _ hL

section
variable (c : Dev nD) (i : grid0.Coords) (arg1 : Memref sig .tc .vmem S256x4608 .bf16) (harg1 : arg1.IsWhole) (arg2 : Memref sig .tc .vmem S4608x512 .fp8e4m3) (harg2 : arg2.IsWhole) (arg3 : Memref sig .tc .vmem S144x512 .i8) (harg3 : arg3.IsWhole) (arg4 : Memref sig .tc .vmem S256x512 .bf16) (harg4 : arg4.IsWhole) (arg5 : Memref sig .tc .vmem S256x4608 .fp8e4m3) (harg5 : arg5.IsWhole) (arg6 : Memref sig .tc .vmem S256x144 .i8) (harg6 : arg6.IsWhole) (arg7 : Memref sig .tc .vmem S256x4608 .bf16) (harg7 : arg7.IsWhole)
  (x0 : Vec F S256x4608 .bf16) (x1 : Vec F S4608x512 .fp8e4m3) (x2 : Vec F S144x512 .i8) (xs : Vec F S256x4608 .bf16)

attribute [local irreducible] runA runB

/-- The first point: the outputs and the scratch end as the closed forms say. -/
theorem stepA (hc0 : cond0_0 i) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare (dxOf (deqOf x0) x1 x2) ∗ owns (c : Thread nD τ) arg5 fullShare (codesOf x0) ∗ owns (c : Thread nD τ) arg6 fullShare (scaleOf x0) ∗ owns (c : Thread nD τ) arg7 fullShare (deqOf x0)) -∗ K ⟨⟩))
      ⊢ wp frame (wpE (defs₀ (F := F)) Variants.none c none) E (cc0_mxfp8_dgrad i arg1 harg1 arg2 harg2 arg3 harg3 arg4 harg4 arg5 harg5 arg6 harg6 arg7 harg7) K := by
  have h1 := runA_codes c i arg1 harg1 arg2 harg2 arg3 harg3 arg4 harg4 arg5 harg5 arg6 harg6 arg7 harg7 x0 x1 x2 hc0
  have h2 := runA_deq c i arg1 harg1 arg2 harg2 arg3 harg3 arg4 harg4 arg5 harg5 arg6 harg6 arg7 harg7 x0 x1 x2 hc0
  have h3 := runA_scale c i arg1 harg1 arg2 harg2 arg3 harg3 arg4 harg4 arg5 harg5 arg6 harg6 arg7 harg7 x0 x1 x2 hc0
  have h4 := runA_dx c i arg1 harg1 arg2 harg2 arg3 harg3 arg4 harg4 arg5 harg5 arg6 harg6 arg7 harg7 x0 x1 x2 hc0
  generalize runA c i arg1 harg1 arg2 harg2 arg3 harg3 arg4 harg4 arg5 harg5 arg6 harg6 arg7 harg7 hc0 x0 x1 x2 = R at h1 h2 h3 h4
  obtain ⟨L3, L4, L5, LS, run⟩ := R
  dsimp only at h1 h2 h3 h4
  subst h1 h2 h3 h4
  refine BIBase.Entails.trans ?_ (run E K)
  iintro ⟨H0, H1, H2, H3, H4, H5, HS, HK⟩
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  iapply HK
  isplitl [H0]; · iexact H0
  isplitl [H1]; · iexact H1
  isplitl [H2]; · iexact H2
  isplitl [H3]
  · ihave H := (owns_canon c arg4 _ (cover_dx _)) $$ H3
    rw [canon_dx]; iexact H
  isplitl [H4]
  · iapply (owns_canon c arg5 _ (cover_pieces codesT x0)); iexact H4
  isplitl [H5]
  · iapply (owns_canon c arg6 _ (cover_scale fun t => pieceT (tileOf x0 t))); iexact H5
  iapply (owns_canon c arg7 _ (cover_pieces deqT x0)); iexact HS

/-- A later point: the first output ends as the closed form says of what the scratch holds, and nothing else changes. -/
theorem stepB (hc0 : ¬cond0_0 i) (x4 : Vec F S256x4608 .fp8e4m3) (x5 : Vec F S256x144 .i8) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare x5 ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare (dxOf xs x1 x2) ∗ owns (c : Thread nD τ) arg5 fullShare x4 ∗ owns (c : Thread nD τ) arg6 fullShare x5 ∗ owns (c : Thread nD τ) arg7 fullShare xs) -∗ K ⟨⟩))
      ⊢ wp frame (wpE (defs₀ (F := F)) Variants.none c none) E (cc0_mxfp8_dgrad i arg1 harg1 arg2 harg2 arg3 harg3 arg4 harg4 arg5 harg5 arg6 harg6 arg7 harg7) K := by
  have h4 := runB_dx c i arg1 harg1 arg2 harg2 arg3 harg3 arg4 harg4 arg5 harg5 arg6 harg6 arg7 harg7 x0 x1 x2 xs hc0
  generalize runB c i arg1 harg1 arg2 harg2 arg3 harg3 arg4 harg4 arg5 harg5 arg6 harg6 arg7 harg7 hc0 x0 x1 x2 xs = R at h4
  obtain ⟨L3, run⟩ := R
  dsimp only at h4
  subst h4
  refine BIBase.Entails.trans ?_ (run x4 x5 E K)
  iintro ⟨H0, H1, H2, H3, H4, H5, HS, HK⟩
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  iapply HK
  isplitl [H0]; · iexact H0
  isplitl [H1]; · iexact H1
  isplitl [H2]; · iexact H2
  isplitl [H3]
  · ihave H := (owns_canon c arg4 _ (cover_dx _)) $$ H3
    rw [canon_dx]; iexact H
  isplitl [H4]; · iexact H4
  isplitl [H5]; · iexact H5
  iexact HS
end

end Cert.Kernel.Body

end
-- ==== Proof.BitsFrame.lean ====
/- For the kernel at machine floats: The kernel's run: what its buffers hold point by point, and the frame. -/
module

public import proofs.«01_k».proof.Proof.BitsSteps
public import Idealize.ShloMosaic.Lib.Claim
public import Idealize.ShloMosaic.Lib.Pipeline.TableIdle

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## Point by point -/

variable (m : (ℓ : Loc nD τ sig) → Buf (Elt F) ℓ) (ρ : Dev nD → PrngReg)

/-- The first point. -/
abbrev pt0 : Fin cfg0.N := ⟨0, by rw [show cfg0.N = 14 from N_0]; decide⟩

/-- The operand as the region finds it. -/
abbrev X0 (c : Dev nD) : Vec F S256x4608 .bf16 := iblk m c 0 pt0

/-- The region's invariant before position `n`: at first nothing is known of the scratch; afterwards it holds the
    dequantised operand. -/
def PhiS (c : Dev nD) : ℕ → sProp 𝕄
  | 0 => Pipeline.ΦA spec0 c
  | _ + 1 => iprop(iprop(owns (c : Thread nD τ) scM0_0 fullShare (deqOf (X0 m c))) ∗ (∃ r, prngReg c r))

theorem PhiS_pos (c : Dev nD) (n : ℕ) (hz : n ≠ 0) :
    PhiS m c n = iprop(iprop(owns (c : Thread nD τ) scM0_0 fullShare (deqOf (X0 m c))) ∗ (∃ r, prngReg c r)) := by
  cases n with
  | zero => exact absurd rfl hz
  | succ n => rfl

/-- The proof data: after the body at a point, each input's buffer holds its block, the first output's the product of that
    point's weights, the other two the codes and the scales of the operand. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => dxOf (deqOf (X0 m c)) (iblk m c 1 t) (iblk m c 2 t)
    | ⟨4, _⟩ => codesOf (X0 m c)
    | ⟨5, _⟩ => scaleOf (X0 m c)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = dxOf (deqOf (X0 m c)) (iblk m c 1 t) (iblk m c 2 t) := by dsimp only [dats]
theorem after0_4 (c : Dev nD) (t : Fin cfg0.N) : (dats m 0 c).after 4 t = codesOf (X0 m c) := by dsimp only [dats]
theorem after0_5 (c : Dev nD) (t : Fin cfg0.N) : (dats m 0 c).after 5 t = scaleOf (X0 m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The codes' and the scales' windows: stored at the first point, kept until the last -/

theorem lt14 (t : Fin cfg0.N) : t.val < 14 := lt_of_lt_of_eq t.isLt (show cfg0.N = 14 from N_0)

/-- They are idle exactly after the first point. -/
theorem idle4 (t : Fin cfg0.N) : cfg0.idle 4 (cfg0.grid.coords t) = decide (t.val ≠ 0) := by
  have h : cfg0.idle 4 (cfg0.grid.coords t) = !(k0_cond1 (grid0.coords t) == 1#1) := rfl
  have hc := hcond0_0 t
  have ht := lt14 t
  rw [h]
  by_cases hz : t.val = 0
  · rw [show k0_cond1 (grid0.coords t) = 1#1 from hc.mpr (by rw [hz])]; simp [hz]
  · have : k0_cond1 (grid0.coords t) ≠ 1#1 := fun h => hz (by have := hc.mp h; omega)
    simp [hz, this]

theorem idle5 (t : Fin cfg0.N) : cfg0.idle 5 (cfg0.grid.coords t) = decide (t.val ≠ 0) := idle4 t

/-- A window idle after the first point and written back at the last only holds something stored from the second point on. -/
theorem fresh_false (w : Fin cfg0.W) (hi : ∀ t, cfg0.idle w (cfg0.grid.coords t) = decide (t.val ≠ 0))
    (hf : ∀ t, (cfg0.win w).flush t = true ↔ t.val % 14 = 13) (t : Fin cfg0.N) (hz : t.val ≠ 0) : cfg0.fresh w t.val = false := by
  have ht := lt14 t
  rw [cfg0.fresh_tab w (fun n => n = 0 || 14 ≤ n) rfl (fun u => by
      have hu := lt14 u
      rw [hi u, Bool.eq_iff_iff]
      by_cases h13 : u.val = 13
      · simp [(hf u).mpr (by omega), h13]
      · have : (cfg0.win w).flush u = false := by
          cases h : (cfg0.win w).flush u
          · rfl
          · exact absurd ((hf u).mp h) (by omega)
        simp only [this, Bool.false_or, Bool.or_eq_true, Bool.and_eq_true, decide_eq_true_eq]; omega) _ (le_of_lt t.isLt)]
  simp [hz]; omega

theorem before0_4 (c : Dev nD) (t : Fin cfg0.N) (hz : t.val ≠ 0) (d) : (dats m 0 c).before 4 t d = codesOf (X0 m c) := by
  rw [(dats m 0 c).before_out_traj 4 rfl (fun _ _ => rfl) (fun t _ _ _ => by rw [after0_4, after0_4]) _ t rfl d,
    fresh_false 4 idle4 flush0_4 t hz, after0_4]; rfl
theorem before0_5 (c : Dev nD) (t : Fin cfg0.N) (hz : t.val ≠ 0) (d) : (dats m 0 c).before 5 t d = scaleOf (X0 m c) := by
  rw [(dats m 0 c).before_out_traj 5 rfl (fun _ _ => rfl) (fun t _ _ _ => by rw [after0_5, after0_5]) _ t rfl d,
    fresh_false 5 idle5 flush0_5 t hz, after0_5]; rfl

/-- At the first point what the body leaves is the codes; -/
theorem leaves4_first (c : Dev nD) (t : Fin cfg0.N) (hz : t.val = 0) :
    owns (c : Thread nD τ) (ms0_4 t) fullShare (codesOf (X0 m c)) ⊢ ((dats m 0 c).leavesExact 4 t : sProp 𝕄) := by
  unfold Dat.leavesExact; rw [idle4, after0_4]; simp only [hz]; exact .rfl
theorem leaves5_first (c : Dev nD) (t : Fin cfg0.N) (hz : t.val = 0) :
    owns (c : Thread nD τ) (ms0_5 t) fullShare (scaleOf (X0 m c)) ⊢ ((dats m 0 c).leavesExact 5 t : sProp 𝕄) := by
  unfold Dat.leavesExact; rw [idle5, after0_5]; simp only [hz]; exact .rfl

/-- later, it leaves them as they were. -/
theorem leaves4_later (c : Dev nD) (t : Fin cfg0.N) (hz : t.val ≠ 0) :
    owns (c : Thread nD τ) (ms0_4 t) fullShare (codesOf (X0 m c)) ⊢ ((dats m 0 c).leavesExact 4 t : sProp 𝕄) := by
  unfold Dat.leavesExact; rw [idle4, after0_4]; simp only [hz, ne_eq, not_false_eq_true, decide_true]
  cases (cfg0.win 4).flush t
  · iintro H; iexists (codesOf (X0 m c)); rw [before0_4 m c t hz]; iexact H
  · exact .rfl
theorem leaves5_later (c : Dev nD) (t : Fin cfg0.N) (hz : t.val ≠ 0) :
    owns (c : Thread nD τ) (ms0_5 t) fullShare (scaleOf (X0 m c)) ⊢ ((dats m 0 c).leavesExact 5 t : sProp 𝕄) := by
  unfold Dat.leavesExact; rw [idle5, after0_5]; simp only [hz, ne_eq, not_false_eq_true, decide_true]
  cases (cfg0.win 5).flush t
  · iintro H; iexists (scaleOf (X0 m c)); rw [before0_5 m c t hz]; iexact H
  · exact .rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (dats m 0 c).leavesExact 4 t ∗ (dats m 0 c).leavesExact 5 t)

set_option maxHeartbeats 400000 in
attribute [local irreducible] codesOf deqOf scaleOf dxOf in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.succ = PhiS m c (t.val + 1) from rfl, PhiS_pos m c _ (Nat.succ_ne_zero _),
    show (dats m 0 c).Φ t.castSucc = PhiS m c t.val from rfl]
  have hN := lt14 t
  by_cases hz : t.val = 0
  · have hc : cond0_0 (grid0.coords t) := (hcond0_0 t).mpr (by rw [hz])
    have ht : t = pt0 := Fin.ext hz
    rw [show PhiS m c t.val = Pipeline.ΦA spec0 c by rw [hz]; rfl, PhiA0_eq, show X0 m c = iblk m c 0 t by rw [ht]]
    iintro ⟨⟨HS0, Hg⟩, Ho, ⟨%d0, H0⟩, ⟨%d1, H1⟩, ⟨%d2, H2⟩, ⟨%d3, H3⟩, ⟨%d4, H4⟩, ⟨%d5, H5⟩⟩
    iapply (stepA c (grid0.coords t) _ _ _ _ _ _ _ _ _ _ _ _ _ _ (iblk m c 0 t) (iblk m c 1 t) (iblk m c 2 t) hc Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]
    · iapply (leaves4_first m c t hz); rw [show X0 m c = iblk m c 0 t by rw [ht]]; iexact H4
    iapply (leaves5_first m c t hz); rw [show X0 m c = iblk m c 0 t by rw [ht]]; iexact H5
  · have hc : ¬cond0_0 (grid0.coords t) := fun h => hz (by have := (hcond0_0 t).mp h; omega)
    rw [PhiS_pos m c _ hz]
    simp only [before0_4 m c t hz, before0_5 m c t hz]
    iintro ⟨⟨HS0, Hg⟩, Ho, ⟨%d0, H0⟩, ⟨%d1, H1⟩, ⟨%d2, H2⟩, ⟨%d3, H3⟩, ⟨%d4, H4⟩, ⟨%d5, H5⟩⟩
    iapply (stepB c (grid0.coords t) _ _ _ _ _ _ _ _ _ _ _ _ _ _ (iblk m c 0 t) (iblk m c 1 t) (iblk m c 2 t) (deqOf (X0 m c)) hc (codesOf (X0 m c)) (scaleOf (X0 m c)) Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    iintro ⟨H0, H1, H2, H3, H4, H5, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iapply (leaves4_later m c t hz); iexact H4
    iapply (leaves5_later m c t hz); iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl]; exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by have : cfg0.N = 14 := N_0; omega), PhiA0_eq]
  iintro ⟨HS0, Hg⟩
  isplitl [HS0]
  · iexists _; iexact HS0
  iexact Hg

/-! ## The run and the frame -/

set_option backward.isDefEq.respectTransparency.types false in
/-- Every execution of the program ends, with the pipeline's arrays as the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the program ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Body

end
-- ==== Proof.Points.lean ====
/- What the kernel body is called with at a grid point: the condition of its one branch in closed form, the staging buffers and
   the scratch buffer. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates. -/
abbrev cond0_0 (i : grid0.Coords) : Prop := k0_cond1 i = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x4608 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4608x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S144x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x4608 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x144 .i8 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S256x4608 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Body

end
-- ==== Proof.RunB.lean ====
/- The kernel body run at a grid point after the first. -/
module

public import proofs.«01_k».proof.Proof.Points

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- At every later grid point (the branch not taken) the body, on whole buffers — the inputs and the scratch at their contents,
    the codes' and scales' buffers at contents it does not touch, the first output at anything — runs to its end and leaves all
    of them as they were but the first output, which holds the pieces stored into it. -/
def runB (c : Dev nD) (i : grid0.Coords) (arg1 : Memref sig .tc .vmem S256x4608 .bf16) (harg1 : arg1.IsWhole) (arg2 : Memref sig .tc .vmem S4608x512 .fp8e4m3) (harg2 : arg2.IsWhole) (arg3 : Memref sig .tc .vmem S144x512 .i8) (harg3 : arg3.IsWhole) (arg4 : Memref sig .tc .vmem S256x512 .bf16) (harg4 : arg4.IsWhole) (arg5 : Memref sig .tc .vmem S256x4608 .fp8e4m3) (harg5 : arg5.IsWhole) (arg6 : Memref sig .tc .vmem S256x144 .i8) (harg6 : arg6.IsWhole) (arg7 : Memref sig .tc .vmem S256x4608 .bf16) (harg7 : arg7.IsWhole) (hc0 : ¬cond0_0 i)
    (x0 : Vec F S256x4608 .bf16) (x1 : Vec F S4608x512 .fp8e4m3) (x2 : Vec F S144x512 .i8) (xs : Vec F S256x4608 .bf16) :
    { L3 : List (View.Piece (Elt F) S256x512 .bf16) //
      ∀ (x4 : Vec F S256x4608 .fp8e4m3) (x5 : Vec F S256x144 .i8) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare x5 ∗ owns (c : Thread nD τ) arg7 fullShare xs
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare x4 ∗ owns (c : Thread nD τ) arg6 fullShare x5 ∗ owns (c : Thread nD τ) arg7 fullShare xs) -∗ K ⟨⟩))
          ⊢ wp frame (wpE (defs₀ (F := F)) Variants.none c none) E (cc0_mxfp8_dgrad i arg1 harg1 arg2 harg2 arg3 harg3 arg4 harg4 arg5 harg5 arg6 harg6 arg7 harg7) K } := by
  refine ⟨?_, fun x4 x5 E K => ?run⟩
  case run =>
    simp only [cc0_mxfp8_dgrad_eq_skeleton]; unfold cc0_mxfp8_dgrad_skel
    simp only [k0_part151_eq_skeleton, k0_part152_eq_skeleton, k0_part153_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2
    obtain rfl := harg5.eq_unread hf4; obtain rfl := harg6.eq_unread hf5; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    iexists _; isplitr; · ipureintro; exact harg7.read_unread _
    iexact HS0

end Cert.KernelIdeal.Body

end
-- ==== Proof.RunA.lean ====
/- The kernel body run at the first grid point. -/
module

public import proofs.«01_k».proof.Proof.RunB

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 6000000 in
/-- At the first grid point (the branch taken) the body, on whole buffers — the three inputs at their contents, the outputs
    and the scratch at anything — runs to its end and leaves the inputs as they were; the three outputs and the scratch hold
    the pieces stored into them, which the run finds. -/
def runA (c : Dev nD) (i : grid0.Coords) (arg1 : Memref sig .tc .vmem S256x4608 .bf16) (harg1 : arg1.IsWhole) (arg2 : Memref sig .tc .vmem S4608x512 .fp8e4m3) (harg2 : arg2.IsWhole) (arg3 : Memref sig .tc .vmem S144x512 .i8) (harg3 : arg3.IsWhole) (arg4 : Memref sig .tc .vmem S256x512 .bf16) (harg4 : arg4.IsWhole) (arg5 : Memref sig .tc .vmem S256x4608 .fp8e4m3) (harg5 : arg5.IsWhole) (arg6 : Memref sig .tc .vmem S256x144 .i8) (harg6 : arg6.IsWhole) (arg7 : Memref sig .tc .vmem S256x4608 .bf16) (harg7 : arg7.IsWhole) (hc0 : cond0_0 i)
    (x0 : Vec F S256x4608 .bf16) (x1 : Vec F S4608x512 .fp8e4m3) (x2 : Vec F S144x512 .i8) :
    Σ' (L3 : List (View.Piece (Elt F) S256x512 .bf16)) (L4 : List (View.Piece (Elt F) S256x4608 .fp8e4m3)) (L5 : List (View.Piece (Elt F) S256x144 .i8)), { LS : List (View.Piece (Elt F) S256x4608 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS)) -∗ K ⟨⟩))
          ⊢ wp frame (wpE (defs₀ (F := F)) Variants.none c none) E (cc0_mxfp8_dgrad i arg1 harg1 arg2 harg2 arg3 harg3 arg4 harg4 arg5 harg5 arg6 harg6 arg7 harg7) K } := by
  refine ⟨?_, ?_, ?_, ?_, fun E K => ?run⟩
  case run =>
    simp only [cc0_mxfp8_dgrad_eq_skeleton]; unfold cc0_mxfp8_dgrad_skel
    simp only [k0_part151_eq_skeleton, k0_part148_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part149_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part150_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part152_eq_skeleton, k0_part153_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    iexists _; iexact HS0

end Cert.KernelIdeal.Body

end
-- ==== Proof.Tile.lean ====
/- The quantiser of one tile of 128 lanes, as the kernel computes it, named step by step. -/
module

public import proofs.«01_k».proof.Proof.Points

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- The lane number. -/
def lane : IVec S256x128 32 := iota .tc S256x128 32 [1] iota_S256x128_d1_w32

/-- A table of lanes as the gather reads it: a negative lane counts from the end. -/
def wrap (p : IVec S256x128 32) : IVec S256x128 32 :=
  shapeCast S256x128
    (shapeCast S256x128x1
      (select (cmpi .slt p (broadcast S256x128 0#32)) (addi p (broadcast S256x128 128#32)) p)
      shapeCasts_S256x128_S256x128x1)
    shapeCasts_S256x128x1_S256x128

/-- Every lane's maximum with the lane whose number differs in the bits of `s`. -/
def hop (s : BitVec 32) (m : FVec F S256x128 .f32) : FVec F S256x128 .f32 :=
  maximumf m (dynamicGather 1 m (wrap (xori lane (broadcast S256x128 s))))

/-- A tile's values in float32. -/
def wide (x : Vec F S256x128 .bf16) : FVec F S256x128 .f32 :=
  extf .f32 (shapeCast S256x128 x shapeCasts_S256x128_S256x128) bitsLt_bf16_f32

/-- The largest absolute value of the lane's block. -/
def block (x : Vec F S256x128 .bf16) : FVec F S256x128 .f32 :=
  hop 16#32 (hop 8#32 (hop 4#32 (hop 2#32 (hop 1#32 (absf (wide x))))))

/-- That maximum over the largest code. -/
def ratio (x : Vec F S256x128 .bf16) : FVec F S256x128 .f32 :=
  mulf (block x) (broadcast S256x128 (Scalar.ofBits .f32 0x3B124925#32))

/-- One step of the search: bit `b` of the exponent field stays when the float of that field is not above `r`. -/
def probe (r : FVec F S256x128 .f32) (b : BitVec 32) (f : IVec S256x128 32) : IVec S256x128 32 :=
  select (cmpf .olt r (bitcastToFloat .f32 (shli (ori f (broadcast S256x128 b)) (broadcast S256x128 23#32)))) f
    (ori f (broadcast S256x128 b))

/-- The exponent field of `r`. -/
def field (r : FVec F S256x128 .f32) : IVec S256x128 32 :=
  probe r 1#32 (probe r 2#32 (probe r 4#32 (probe r 8#32 (probe r 16#32 (probe r 32#32 (probe r 64#32
    (probe r 128#32 (broadcast S256x128 0#32))))))))

/-- The exponent of the lane's block. -/
def expo (x : Vec F S256x128 .bf16) : IVec S256x128 32 :=
  select (cmpf .oeq (ratio x) (broadcast S256x128 (Scalar.ofBits .f32 0x00000000#32))) (broadcast S256x128 0#32)
    (subi (field (ratio x)) (broadcast S256x128 126#32))

/-- Two to the power `e`, as the float whose exponent field is `e + 127`. -/
def pow2 (e : IVec S256x128 32) : FVec F S256x128 .f32 :=
  bitcastToFloat .f32 (shli (addi e (broadcast S256x128 127#32)) (broadcast S256x128 23#32))

/-- A tile's codes. -/
def codesT (x : Vec F S256x128 .bf16) : FVec F S256x128 .fp8e4m3 :=
  truncf .fp8e4m3
    (minimumf (broadcast S256x128 (Scalar.ofBits .f32 0x43E00000#32))
      (maximumf (broadcast S256x128 (Scalar.ofBits .f32 0xC3E00000#32))
        (mulf (wide x) (pow2 (subi (broadcast S256x128 0#32) (expo x))))))
    bitsLt_fp8e4m3_f32

/-- A tile's values as the codes and the exponents give them back. -/
def deqT (x : Vec F S256x128 .bf16) : FVec F S256x128 .bf16 :=
  shapeCast S256x128
    (truncf .bf16 (mulf (extf .f32 (codesT x) bitsLt_fp8e4m3_f32) (pow2 (expo x))) bitsLt_bf16_f32)
    shapeCasts_S256x128_S256x128

/-- The lane number modulo four, as the kernel computes it. -/
def lane4 : IVec S256x128 32 :=
  select
    (andi
      (xori (cmpi .slt (remsi lane (broadcast S256x128 4#32)) (broadcast S256x128 0#32))
        (broadcastTo S256x128 (broadcast S256x128 (Scalar.cmpi .slt 4#32 0#32)) broadcasts_S256x128_S256x128))
      (cmpi .ne (remsi lane (broadcast S256x128 4#32)) (broadcast S256x128 0#32)))
    (addi (remsi lane (broadcast S256x128 4#32)) (broadcast S256x128 4#32))
    (remsi lane (broadcast S256x128 4#32))

/-- A tile's scales, four of them repeated over the lanes. -/
def pieceT (x : Vec F S256x128 .bf16) : IVec S256x128 32 :=
  dynamicGather 1 (addi (expo x) (broadcast S256x128 127#32)) (wrap (muli lane4 (broadcast S256x128 32#32)))

end Cert.KernelIdeal.Body
-- ==== Proof.Tiles.lean ====
/- What the body's run stores, in terms of the tiles and chunks of its operands. -/
module

public import proofs.«01_k».proof.Proof.RunA
public import proofs.«01_k».proof.Proof.Tile

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- The 128 columns of tile `t`. -/
def tileRect (t : Fin 36) : Rect S256x4608 :=
  Rect.unit (s := S256x4608) ![0, 128 * t.val] S256x128.size (by
    have := t.isLt
    intro a; fin_cases a
    · show 0 + 256 ≤ 256; omega
    · show 128 * t.val + 128 ≤ 4608; omega)

/-- Tile `t` of the whole operand. -/
def tileOf {e : EltTy} (X : Vec F S256x4608 e) (t : Fin 36) : Vec F S256x128 e := View.ld X (tileRect t)

/-- The tiles, the last one first. -/
def tilesDown : List (Fin 36) :=
  [35, 34, 33, 32, 31, 30, 29, 28, 27, 26, 25, 24, 23, 22, 21, 20, 19, 18, 17, 16, 15, 14, 13, 12, 11, 10, 9, 8, 7, 6, 5, 4, 3, 2, 1, 0]

/-- The stores of a function `q` of each tile, the last one first. -/
def piecesOf {e : EltTy} (q : Vec F S256x128 .bf16 → Vec F S256x128 e) (X : Vec F S256x4608 .bf16) :
    List (View.Piece (Elt F) S256x4608 e) :=
  tilesDown.map fun t => ⟨tileRect t, q (tileOf X t)⟩

/-- A tile's four scales put over the lanes from `lo` up to `hi`. -/
def put (lo hi : BitVec 32) (p acc : IVec S256x128 32) : IVec S256x128 32 :=
  select (andi (cmpi .sge lane (broadcast S256x128 lo)) (cmpi .slt lane (broadcast S256x128 hi))) p acc

/-- The scales of the tiles of `l`, numbered from `base`, side by side. -/
def gather4 (P : Fin 36 → IVec S256x128 32) (base : ℕ) (l : List (Fin 36)) : IVec S256x128 32 :=
  l.foldl (fun acc t => put (BitVec.ofNat 32 (4 * (t.val - base))) (BitVec.ofNat 32 (4 * (t.val - base) + 4)) (P t) acc)
    (broadcast S256x128 0#32)

/-- The two stores of the scales, the last one first. -/
def scalePieces (P : Fin 36 → IVec S256x128 32) : List (View.Piece (Elt F) S256x144 .i8) :=
  [⟨Rect.unit (s := S256x144) ![0, 128] S256x16.size inb_S256x144_S256x16_0_128,
      trunci 8 (extractStridedSlice S256x16 ![0, 0] (gather4 P 32 [32, 33, 34, 35]) slices_S256x128_o0_0_S256x16) natLt_8_32⟩,
    ⟨Rect.unit (s := S256x144) ![0, 0] S256x128.size inb_S256x144_S256x128_0_0,
      trunci 8 (gather4 P 0 [0, 1, 2, 3, 4, 5, 6, 7, 8, 9, 10, 11, 12, 13, 14, 15, 16, 17, 18, 19, 20, 21, 22, 23, 24, 25, 26, 27, 28, 29, 30, 31]) natLt_8_32⟩]

/-- A chunk of 512 rows of weights: each code times the power of two of its block's scale byte. -/
def weightsC (w : Vec F S512x512 .fp8e4m3) (s : Vec F S16x512 .i8) : FVec F S512x512 .bf16 :=
  shapeCast S512x512
    (mulf (shapeCast S16x32x512 (extf .bf16 w bitsLt_fp8e4m3_bf16 : FVec F S512x512 .bf16) shapeCasts_S512x512_S16x32x512)
      (broadcastTo S16x32x512
        (shapeCast S16x1x512
          (truncf .bf16 (bitcastToFloat .f32 (shli (extui 32 s natLt_8_32) (broadcast S16x512 23#32)) : FVec F S16x512 .f32)
            bitsLt_bf16_f32)
          shapeCasts_S16x512_S16x1x512)
        broadcasts_S16x1x512_S16x32x512))
    shapeCasts_S16x32x512_S512x512

/-- Chunk `k`'s product. -/
def chunkDot (d : Vec F S256x512 .bf16) (w : Vec F S512x512 .fp8e4m3) (s : Vec F S16x512 .i8) : FVec F S256x512 .f32 :=
  matmul dot_S256x512_S512x512_S256x512_1_0_0_1_n_n none d (weightsC w s) (constant S256x512 .f32 0x00000000#32)

/-- The columns of chunk `k` of the dequantised operand, -/
def colRect (k : Fin 9) : Rect S256x4608 :=
  Rect.unit (s := S256x4608) ![0, 512 * k.val] S256x512.size (by
    have := k.isLt
    intro a; fin_cases a
    · show 0 + 256 ≤ 256; omega
    · show 512 * k.val + 512 ≤ 4608; omega)

/-- the rows of chunk `k` of the weights' codes, -/
def rowRect (k : Fin 9) : Rect S4608x512 :=
  Rect.unit (s := S4608x512) ![512 * k.val, 0] S512x512.size (by
    have := k.isLt
    intro a; fin_cases a
    · show 512 * k.val + 512 ≤ 4608; omega
    · show 0 + 512 ≤ 512; omega)

/-- and of their scales. -/
def srowRect (k : Fin 9) : Rect S144x512 :=
  Rect.unit (s := S144x512) ![16 * k.val, 0] S16x512.size (by
    have := k.isLt
    intro a; fin_cases a
    · show 16 * k.val + 16 ≤ 144; omega
    · show 0 + 512 ≤ 512; omega)

/-- The first output's block from the chunks of the dequantised operand: the chunks' products added up in order. -/
def dxChunks (D : Fin 9 → Vec F S256x512 .bf16) (W : Vec F S4608x512 .fp8e4m3) (S : Vec F S144x512 .i8) : FVec F S256x512 .bf16 :=
  truncf .bf16
    (([0, 1, 2, 3, 4, 5, 6, 7, 8] : List (Fin 9)).foldl
      (fun acc k => addf acc (chunkDot (D k) (View.ld W (rowRect k)) (View.ld S (srowRect k))))
      (broadcast S256x512 (Scalar.ofBits .f32 0x00000000#32) : FVec F S256x512 .f32))
    bitsLt_bf16_f32

/-- Its one store. -/
def dxPieces (x : FVec F S256x512 .bf16) : List (View.Piece (Elt F) S256x512 .bf16) :=
  [⟨Rect.unit (s := S256x512) ![0, 0] S256x512.size inb_S256x512_S256x512_0_0, x⟩]

section
variable (c : Dev nD) (i : grid0.Coords) (arg1 : Memref sig .tc .vmem S256x4608 .bf16) (harg1 : arg1.IsWhole) (arg2 : Memref sig .tc .vmem S4608x512 .fp8e4m3) (harg2 : arg2.IsWhole) (arg3 : Memref sig .tc .vmem S144x512 .i8) (harg3 : arg3.IsWhole) (arg4 : Memref sig .tc .vmem S256x512 .bf16) (harg4 : arg4.IsWhole) (arg5 : Memref sig .tc .vmem S256x4608 .fp8e4m3) (harg5 : arg5.IsWhole) (arg6 : Memref sig .tc .vmem S256x144 .i8) (harg6 : arg6.IsWhole) (arg7 : Memref sig .tc .vmem S256x4608 .bf16) (harg7 : arg7.IsWhole)
  (x0 : Vec F S256x4608 .bf16) (x1 : Vec F S4608x512 .fp8e4m3) (x2 : Vec F S144x512 .i8) (xs : Vec F S256x4608 .bf16)

set_option maxHeartbeats 2000000 in
/-- The codes' stores at the first point. -/
theorem runA_codes' (hc0 : cond0_0 i) : (runA c i arg1 harg1 arg2 harg2 arg3 harg3 arg4 harg4 arg5 harg5 arg6 harg6 arg7 harg7 hc0 x0 x1 x2).2.1 = piecesOf codesT (arg1.view.read (Elt F) (harg1.unread x0)) := by
  sl_kernel_rfl

/-- The scratch's stores at the first point. -/
theorem runA_deq' (hc0 : cond0_0 i) : (runA c i arg1 harg1 arg2 harg2 arg3 harg3 arg4 harg4 arg5 harg5 arg6 harg6 arg7 harg7 hc0 x0 x1 x2).2.2.2.1 = piecesOf deqT (arg1.view.read (Elt F) (harg1.unread x0)) := by
  sl_kernel_rfl

/-- The scales' stores at the first point. -/
theorem runA_scale' (hc0 : cond0_0 i) : (runA c i arg1 harg1 arg2 harg2 arg3 harg3 arg4 harg4 arg5 harg5 arg6 harg6 arg7 harg7 hc0 x0 x1 x2).2.2.1 = scalePieces fun t => pieceT (tileOf (arg1.view.read (Elt F) (harg1.unread x0)) t) := by
  sl_kernel_rfl

/-- The scratch's stores, as the loads of the first point find them. -/
theorem runA_scratch : runA.sl.HS0_36 c arg1 harg1 x0 = piecesOf deqT (arg1.view.read (Elt F) (harg1.unread x0)) := by
  sl_kernel_rfl

/-- The first output's store at the first point. -/
theorem runA_dx' (hc0 : cond0_0 i) : (runA c i arg1 harg1 arg2 harg2 arg3 harg3 arg4 harg4 arg5 harg5 arg6 harg6 arg7 harg7 hc0 x0 x1 x2).1 = dxPieces (dxChunks (fun k => arg7.view.readCov (runA.sl.HS0_36 c arg1 harg1 x0) (colRect k).toLoadRect) (arg2.view.read (Elt F) (harg2.unread x1)) (arg3.view.read (Elt F) (harg3.unread x2))) := by
  sl_kernel_rfl

/-- The first output's store at a later point. -/
theorem runB_dx' (hc0 : ¬cond0_0 i) : (runB c i arg1 harg1 arg2 harg2 arg3 harg3 arg4 harg4 arg5 harg5 arg6 harg6 arg7 harg7 hc0 x0 x1 x2 xs).1 = dxPieces (dxChunks (fun k => View.ld (arg7.view.read (Elt F) (harg7.unread xs)) (colRect k)) (arg2.view.read (Elt F) (harg2.unread x1)) (arg3.view.read (Elt F) (harg3.unread x2))) := by
  sl_kernel_rfl
end

end Cert.KernelIdeal.Body
-- ==== Proof.Steps.lean ====
/- One point of the kernel's grid, in closed form. -/
module

public import proofs.«01_k».proof.Proof.Tiles
public import Idealize.ShloMosaic.Lib.Claim
public import Idealize.ShloMosaic.Lib.Pipeline.TableIdle

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What the outputs and the scratch hold, in closed form -/

/-- The codes of an operand. -/
def codesOf (X : Vec F S256x4608 .bf16) : Vec F S256x4608 .fp8e4m3 := View.canon (piecesOf codesT X)
/-- The operand as codes and exponents give it back. -/
def deqOf (X : Vec F S256x4608 .bf16) : Vec F S256x4608 .bf16 := View.canon (piecesOf deqT X)
/-- The scales of an operand. -/
def scaleOf (X : Vec F S256x4608 .bf16) : Vec F S256x144 .i8 := View.canon (scalePieces (F := F) fun t => pieceT (tileOf X t))
/-- The first output's block, from the dequantised operand and a block of weights. -/
def dxOf (D : Vec F S256x4608 .bf16) (W : Vec F S4608x512 .fp8e4m3) (S : Vec F S144x512 .i8) : Vec F S256x512 .bf16 :=
  dxChunks (fun k => View.ld D (colRect k)) W S

/-- Every element lies in some tile. -/
theorem cover_pieces {e : EltTy} (q : Vec F S256x128 .bf16 → Vec F S256x128 e) (X : Vec F S256x4608 .bf16) (y : S256x4608.Idx) :
    ∃ p ∈ piecesOf q X, y ∈ p.1.set :=
  View.cover_of_tiledL (piecesOf q X) S256x128.size (by sl_kernel_rfl) y

/-- Every scale lies in one of the two stores. -/
theorem cover_scale (P : Fin 36 → IVec S256x128 32) (y : S256x144.Idx) :
    ∃ p ∈ scalePieces (F := F) P, y ∈ p.1.set :=
  View.cover_of_tiledBy (scalePieces (F := F) P) S256x16.size (by sl_kernel_rfl) y

/-- The first output's store covers its block. -/
theorem cover_dx (x : FVec F S256x512 .bf16) (y : S256x512.Idx) : ∃ p ∈ dxPieces x, y ∈ p.1.set :=
  View.cover_of_tiledL (dxPieces x) S256x512.size (by sl_kernel_rfl) y

theorem canon_dx (x : FVec F S256x512 .bf16) : View.canon (dxPieces x) = x :=
  View.canon_unit_zero (Val := Elt F) (e := .bf16) (S := S256x512) (off := ![0, 0]) (by funext a; fin_cases a <;> rfl)
    inb_S256x512_S256x512_0_0 x

/-! ## The run's stores, in closed form -/

section
variable (c : Dev nD) (i : grid0.Coords) (arg1 : Memref sig .tc .vmem S256x4608 .bf16) (harg1 : arg1.IsWhole) (arg2 : Memref sig .tc .vmem S4608x512 .fp8e4m3) (harg2 : arg2.IsWhole) (arg3 : Memref sig .tc .vmem S144x512 .i8) (harg3 : arg3.IsWhole) (arg4 : Memref sig .tc .vmem S256x512 .bf16) (harg4 : arg4.IsWhole) (arg5 : Memref sig .tc .vmem S256x4608 .fp8e4m3) (harg5 : arg5.IsWhole) (arg6 : Memref sig .tc .vmem S256x144 .i8) (harg6 : arg6.IsWhole) (arg7 : Memref sig .tc .vmem S256x4608 .bf16) (harg7 : arg7.IsWhole)
  (x0 : Vec F S256x4608 .bf16) (x1 : Vec F S4608x512 .fp8e4m3) (x2 : Vec F S144x512 .i8) (xs : Vec F S256x4608 .bf16)

theorem runA_codes (hc0 : cond0_0 i) : (runA c i arg1 harg1 arg2 harg2 arg3 harg3 arg4 harg4 arg5 harg5 arg6 harg6 arg7 harg7 hc0 x0 x1 x2).2.1 = piecesOf codesT x0 := by
  rw [runA_codes', harg1.read_unread]

theorem runA_deq (hc0 : cond0_0 i) : (runA c i arg1 harg1 arg2 harg2 arg3 harg3 arg4 harg4 arg5 harg5 arg6 harg6 arg7 harg7 hc0 x0 x1 x2).2.2.2.1 = piecesOf deqT x0 := by
  rw [runA_deq', harg1.read_unread]

theorem runA_scale (hc0 : cond0_0 i) : (runA c i arg1 harg1 arg2 harg2 arg3 harg3 arg4 harg4 arg5 harg5 arg6 harg6 arg7 harg7 hc0 x0 x1 x2).2.2.1 = scalePieces fun t => pieceT (tileOf x0 t) := by
  rw [runA_scale', harg1.read_unread]

theorem runA_dx (hc0 : cond0_0 i) : (runA c i arg1 harg1 arg2 harg2 arg3 harg3 arg4 harg4 arg5 harg5 arg6 harg6 arg7 harg7 hc0 x0 x1 x2).1 = dxPieces (dxOf (deqOf x0) x1 x2) := by
  rw [runA_dx', harg2.read_unread, harg3.read_unread, runA_scratch, harg1.read_unread]
  unfold dxOf deqOf
  congr 2
  funext k
  exact View.readCov_eq_canon' _ _ _

theorem runB_dx (hc0 : ¬cond0_0 i) : (runB c i arg1 harg1 arg2 harg2 arg3 harg3 arg4 harg4 arg5 harg5 arg6 harg6 arg7 harg7 hc0 x0 x1 x2 xs).1 = dxPieces (dxOf xs x1 x2) := by
  rw [runB_dx', harg2.read_unread, harg3.read_unread, harg7.read_unread]; rfl
end

/-! ## One point, in closed form -/

/-- The stores `L` leave what they are the canon of. -/
theorem owns_canon {s : Shape} {e : EltTy} (c : Dev nD) (a : Memref sig .tc .vmem s e) (L : List (View.Piece (Elt F) s e))
    (hL : ∀ y, ∃ p ∈ L, y ∈ p.1.set) :
    iprop(∃ f, a.view.loc (c : Thread nD τ) ↦[a.view.set]{fullShare} a.view.writes (Elt F) f L)
      ⊢ (owns (c : Thread nD τ) a fullShare (View.canon L) : sProp 𝕄) := by
  unfold owns; iintro ⟨%f, H⟩; iexists _; isplitr
  swap; · iexact H
  ipureintro; exact View.read_writes_eq_canon _ _ _ hL

section
variable (c : Dev nD) (i : grid0.Coords) (arg1 : Memref sig .tc .vmem S256x4608 .bf16) (harg1 : arg1.IsWhole) (arg2 : Memref sig .tc .vmem S4608x512 .fp8e4m3) (harg2 : arg2.IsWhole) (arg3 : Memref sig .tc .vmem S144x512 .i8) (harg3 : arg3.IsWhole) (arg4 : Memref sig .tc .vmem S256x512 .bf16) (harg4 : arg4.IsWhole) (arg5 : Memref sig .tc .vmem S256x4608 .fp8e4m3) (harg5 : arg5.IsWhole) (arg6 : Memref sig .tc .vmem S256x144 .i8) (harg6 : arg6.IsWhole) (arg7 : Memref sig .tc .vmem S256x4608 .bf16) (harg7 : arg7.IsWhole)
  (x0 : Vec F S256x4608 .bf16) (x1 : Vec F S4608x512 .fp8e4m3) (x2 : Vec F S144x512 .i8) (xs : Vec F S256x4608 .bf16)

attribute [local irreducible] runA runB

/-- The first point: the outputs and the scratch end as the closed forms say. -/
theorem stepA (hc0 : cond0_0 i) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare (dxOf (deqOf x0) x1 x2) ∗ owns (c : Thread nD τ) arg5 fullShare (codesOf x0) ∗ owns (c : Thread nD τ) arg6 fullShare (scaleOf x0) ∗ owns (c : Thread nD τ) arg7 fullShare (deqOf x0)) -∗ K ⟨⟩))
      ⊢ wp frame (wpE (defs₀ (F := F)) Variants.none c none) E (cc0_mxfp8_dgrad i arg1 harg1 arg2 harg2 arg3 harg3 arg4 harg4 arg5 harg5 arg6 harg6 arg7 harg7) K := by
  have h1 := runA_codes c i arg1 harg1 arg2 harg2 arg3 harg3 arg4 harg4 arg5 harg5 arg6 harg6 arg7 harg7 x0 x1 x2 hc0
  have h2 := runA_deq c i arg1 harg1 arg2 harg2 arg3 harg3 arg4 harg4 arg5 harg5 arg6 harg6 arg7 harg7 x0 x1 x2 hc0
  have h3 := runA_scale c i arg1 harg1 arg2 harg2 arg3 harg3 arg4 harg4 arg5 harg5 arg6 harg6 arg7 harg7 x0 x1 x2 hc0
  have h4 := runA_dx c i arg1 harg1 arg2 harg2 arg3 harg3 arg4 harg4 arg5 harg5 arg6 harg6 arg7 harg7 x0 x1 x2 hc0
  generalize runA c i arg1 harg1 arg2 harg2 arg3 harg3 arg4 harg4 arg5 harg5 arg6 harg6 arg7 harg7 hc0 x0 x1 x2 = R at h1 h2 h3 h4
  obtain ⟨L3, L4, L5, LS, run⟩ := R
  dsimp only at h1 h2 h3 h4
  subst h1 h2 h3 h4
  refine BIBase.Entails.trans ?_ (run E K)
  iintro ⟨H0, H1, H2, H3, H4, H5, HS, HK⟩
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  iapply HK
  isplitl [H0]; · iexact H0
  isplitl [H1]; · iexact H1
  isplitl [H2]; · iexact H2
  isplitl [H3]
  · ihave H := (owns_canon c arg4 _ (cover_dx _)) $$ H3
    rw [canon_dx]; iexact H
  isplitl [H4]
  · iapply (owns_canon c arg5 _ (cover_pieces codesT x0)); iexact H4
  isplitl [H5]
  · iapply (owns_canon c arg6 _ (cover_scale fun t => pieceT (tileOf x0 t))); iexact H5
  iapply (owns_canon c arg7 _ (cover_pieces deqT x0)); iexact HS

/-- A later point: the first output ends as the closed form says of what the scratch holds, and nothing else changes. -/
theorem stepB (hc0 : ¬cond0_0 i) (x4 : Vec F S256x4608 .fp8e4m3) (x5 : Vec F S256x144 .i8) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare x5 ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare (dxOf xs x1 x2) ∗ owns (c : Thread nD τ) arg5 fullShare x4 ∗ owns (c : Thread nD τ) arg6 fullShare x5 ∗ owns (c : Thread nD τ) arg7 fullShare xs) -∗ K ⟨⟩))
      ⊢ wp frame (wpE (defs₀ (F := F)) Variants.none c none) E (cc0_mxfp8_dgrad i arg1 harg1 arg2 harg2 arg3 harg3 arg4 harg4 arg5 harg5 arg6 harg6 arg7 harg7) K := by
  have h4 := runB_dx c i arg1 harg1 arg2 harg2 arg3 harg3 arg4 harg4 arg5 harg5 arg6 harg6 arg7 harg7 x0 x1 x2 xs hc0
  generalize runB c i arg1 harg1 arg2 harg2 arg3 harg3 arg4 harg4 arg5 harg5 arg6 harg6 arg7 harg7 hc0 x0 x1 x2 xs = R at h4
  obtain ⟨L3, run⟩ := R
  dsimp only at h4
  subst h4
  refine BIBase.Entails.trans ?_ (run x4 x5 E K)
  iintro ⟨H0, H1, H2, H3, H4, H5, HS, HK⟩
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  iapply HK
  isplitl [H0]; · iexact H0
  isplitl [H1]; · iexact H1
  isplitl [H2]; · iexact H2
  isplitl [H3]
  · ihave H := (owns_canon c arg4 _ (cover_dx _)) $$ H3
    rw [canon_dx]; iexact H
  isplitl [H4]; · iexact H4
  isplitl [H5]; · iexact H5
  iexact HS
end

end Cert.KernelIdeal.Body

end
-- ==== Proof.Frame.lean ====
/- The kernel's run: what its buffers hold point by point, and the frame. -/
module

public import proofs.«01_k».proof.Proof.Steps
public import Idealize.ShloMosaic.Lib.Claim
public import Idealize.ShloMosaic.Lib.Pipeline.TableIdle

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## Point by point -/

variable (m : (ℓ : Loc nD τ sig) → Buf (Elt F) ℓ) (ρ : Dev nD → PrngReg)

/-- The first point. -/
abbrev pt0 : Fin cfg0.N := ⟨0, by rw [show cfg0.N = 14 from N_0]; decide⟩

/-- The operand as the region finds it. -/
abbrev X0 (c : Dev nD) : Vec F S256x4608 .bf16 := iblk m c 0 pt0

/-- The region's invariant before position `n`: at first nothing is known of the scratch; afterwards it holds the
    dequantised operand. -/
def PhiS (c : Dev nD) : ℕ → sProp 𝕄
  | 0 => Pipeline.ΦA spec0 c
  | _ + 1 => iprop(iprop(owns (c : Thread nD τ) scM0_0 fullShare (deqOf (X0 m c))) ∗ (∃ r, prngReg c r))

theorem PhiS_pos (c : Dev nD) (n : ℕ) (hz : n ≠ 0) :
    PhiS m c n = iprop(iprop(owns (c : Thread nD τ) scM0_0 fullShare (deqOf (X0 m c))) ∗ (∃ r, prngReg c r)) := by
  cases n with
  | zero => exact absurd rfl hz
  | succ n => rfl

/-- The proof data: after the body at a point, each input's buffer holds its block, the first output's the product of that
    point's weights, the other two the codes and the scales of the operand. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => dxOf (deqOf (X0 m c)) (iblk m c 1 t) (iblk m c 2 t)
    | ⟨4, _⟩ => codesOf (X0 m c)
    | ⟨5, _⟩ => scaleOf (X0 m c)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = dxOf (deqOf (X0 m c)) (iblk m c 1 t) (iblk m c 2 t) := by dsimp only [dats]
theorem after0_4 (c : Dev nD) (t : Fin cfg0.N) : (dats m 0 c).after 4 t = codesOf (X0 m c) := by dsimp only [dats]
theorem after0_5 (c : Dev nD) (t : Fin cfg0.N) : (dats m 0 c).after 5 t = scaleOf (X0 m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The codes' and the scales' windows: stored at the first point, kept until the last -/

theorem lt14 (t : Fin cfg0.N) : t.val < 14 := lt_of_lt_of_eq t.isLt (show cfg0.N = 14 from N_0)

/-- They are idle exactly after the first point. -/
theorem idle4 (t : Fin cfg0.N) : cfg0.idle 4 (cfg0.grid.coords t) = decide (t.val ≠ 0) := by
  have h : cfg0.idle 4 (cfg0.grid.coords t) = !(k0_cond1 (grid0.coords t) == 1#1) := rfl
  have hc := hcond0_0 t
  have ht := lt14 t
  rw [h]
  by_cases hz : t.val = 0
  · rw [show k0_cond1 (grid0.coords t) = 1#1 from hc.mpr (by rw [hz])]; simp [hz]
  · have : k0_cond1 (grid0.coords t) ≠ 1#1 := fun h => hz (by have := hc.mp h; omega)
    simp [hz, this]

theorem idle5 (t : Fin cfg0.N) : cfg0.idle 5 (cfg0.grid.coords t) = decide (t.val ≠ 0) := idle4 t

/-- A window idle after the first point and written back at the last only holds something stored from the second point on. -/
theorem fresh_false (w : Fin cfg0.W) (hi : ∀ t, cfg0.idle w (cfg0.grid.coords t) = decide (t.val ≠ 0))
    (hf : ∀ t, (cfg0.win w).flush t = true ↔ t.val % 14 = 13) (t : Fin cfg0.N) (hz : t.val ≠ 0) : cfg0.fresh w t.val = false := by
  have ht := lt14 t
  rw [cfg0.fresh_tab w (fun n => n = 0 || 14 ≤ n) rfl (fun u => by
      have hu := lt14 u
      rw [hi u, Bool.eq_iff_iff]
      by_cases h13 : u.val = 13
      · simp [(hf u).mpr (by omega), h13]
      · have : (cfg0.win w).flush u = false := by
          cases h : (cfg0.win w).flush u
          · rfl
          · exact absurd ((hf u).mp h) (by omega)
        simp only [this, Bool.false_or, Bool.or_eq_true, Bool.and_eq_true, decide_eq_true_eq]; omega) _ (le_of_lt t.isLt)]
  simp [hz]; omega

theorem before0_4 (c : Dev nD) (t : Fin cfg0.N) (hz : t.val ≠ 0) (d) : (dats m 0 c).before 4 t d = codesOf (X0 m c) := by
  rw [(dats m 0 c).before_out_traj 4 rfl (fun _ _ => rfl) (fun t _ _ _ => by rw [after0_4, after0_4]) _ t rfl d,
    fresh_false 4 idle4 flush0_4 t hz, after0_4]; rfl
theorem before0_5 (c : Dev nD) (t : Fin cfg0.N) (hz : t.val ≠ 0) (d) : (dats m 0 c).before 5 t d = scaleOf (X0 m c) := by
  rw [(dats m 0 c).before_out_traj 5 rfl (fun _ _ => rfl) (fun t _ _ _ => by rw [after0_5, after0_5]) _ t rfl d,
    fresh_false 5 idle5 flush0_5 t hz, after0_5]; rfl

/-- At the first point what the body leaves is the codes; -/
theorem leaves4_first (c : Dev nD) (t : Fin cfg0.N) (hz : t.val = 0) :
    owns (c : Thread nD τ) (ms0_4 t) fullShare (codesOf (X0 m c)) ⊢ ((dats m 0 c).leavesExact 4 t : sProp 𝕄) := by
  unfold Dat.leavesExact; rw [idle4, after0_4]; simp only [hz]; exact .rfl
theorem leaves5_first (c : Dev nD) (t : Fin cfg0.N) (hz : t.val = 0) :
    owns (c : Thread nD τ) (ms0_5 t) fullShare (scaleOf (X0 m c)) ⊢ ((dats m 0 c).leavesExact 5 t : sProp 𝕄) := by
  unfold Dat.leavesExact; rw [idle5, after0_5]; simp only [hz]; exact .rfl

/-- later, it leaves them as they were. -/
theorem leaves4_later (c : Dev nD) (t : Fin cfg0.N) (hz : t.val ≠ 0) :
    owns (c : Thread nD τ) (ms0_4 t) fullShare (codesOf (X0 m c)) ⊢ ((dats m 0 c).leavesExact 4 t : sProp 𝕄) := by
  unfold Dat.leavesExact; rw [idle4, after0_4]; simp only [hz, ne_eq, not_false_eq_true, decide_true]
  cases (cfg0.win 4).flush t
  · iintro H; iexists (codesOf (X0 m c)); rw [before0_4 m c t hz]; iexact H
  · exact .rfl
theorem leaves5_later (c : Dev nD) (t : Fin cfg0.N) (hz : t.val ≠ 0) :
    owns (c : Thread nD τ) (ms0_5 t) fullShare (scaleOf (X0 m c)) ⊢ ((dats m 0 c).leavesExact 5 t : sProp 𝕄) := by
  unfold Dat.leavesExact; rw [idle5, after0_5]; simp only [hz, ne_eq, not_false_eq_true, decide_true]
  cases (cfg0.win 5).flush t
  · iintro H; iexists (scaleOf (X0 m c)); rw [before0_5 m c t hz]; iexact H
  · exact .rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (dats m 0 c).leavesExact 4 t ∗ (dats m 0 c).leavesExact 5 t)

set_option maxHeartbeats 400000 in
attribute [local irreducible] codesOf deqOf scaleOf dxOf in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.succ = PhiS m c (t.val + 1) from rfl, PhiS_pos m c _ (Nat.succ_ne_zero _),
    show (dats m 0 c).Φ t.castSucc = PhiS m c t.val from rfl]
  have hN := lt14 t
  by_cases hz : t.val = 0
  · have hc : cond0_0 (grid0.coords t) := (hcond0_0 t).mpr (by rw [hz])
    have ht : t = pt0 := Fin.ext hz
    rw [show PhiS m c t.val = Pipeline.ΦA spec0 c by rw [hz]; rfl, PhiA0_eq, show X0 m c = iblk m c 0 t by rw [ht]]
    iintro ⟨⟨HS0, Hg⟩, Ho, ⟨%d0, H0⟩, ⟨%d1, H1⟩, ⟨%d2, H2⟩, ⟨%d3, H3⟩, ⟨%d4, H4⟩, ⟨%d5, H5⟩⟩
    iapply (stepA c (grid0.coords t) _ _ _ _ _ _ _ _ _ _ _ _ _ _ (iblk m c 0 t) (iblk m c 1 t) (iblk m c 2 t) hc Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]
    · iapply (leaves4_first m c t hz); rw [show X0 m c = iblk m c 0 t by rw [ht]]; iexact H4
    iapply (leaves5_first m c t hz); rw [show X0 m c = iblk m c 0 t by rw [ht]]; iexact H5
  · have hc : ¬cond0_0 (grid0.coords t) := fun h => hz (by have := (hcond0_0 t).mp h; omega)
    rw [PhiS_pos m c _ hz]
    simp only [before0_4 m c t hz, before0_5 m c t hz]
    iintro ⟨⟨HS0, Hg⟩, Ho, ⟨%d0, H0⟩, ⟨%d1, H1⟩, ⟨%d2, H2⟩, ⟨%d3, H3⟩, ⟨%d4, H4⟩, ⟨%d5, H5⟩⟩
    iapply (stepB c (grid0.coords t) _ _ _ _ _ _ _ _ _ _ _ _ _ _ (iblk m c 0 t) (iblk m c 1 t) (iblk m c 2 t) (deqOf (X0 m c)) hc (codesOf (X0 m c)) (scaleOf (X0 m c)) Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    iintro ⟨H0, H1, H2, H3, H4, H5, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iapply (leaves4_later m c t hz); iexact H4
    iapply (leaves5_later m c t hz); iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl]; exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by have : cfg0.N = 14 := N_0; omega), PhiA0_eq]
  iintro ⟨HS0, Hg⟩
  isplitl [HS0]
  · iexists _; iexact HS0
  iexact Hg

/-! ## The run and the frame -/

set_option backward.isDefEq.respectTransparency.types false in
/-- Every execution of the program ends, with the pipeline's arrays as the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the program ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Body

end
-- ==== Proof.Maths.lean ====
/- The mathematics of the quantiser, at the extended reals: powers of two read from a float's exponent field, the binary
   search for an exponent, and the largest of a block of lanes. -/
module

public import proofs.«01_k».proof.Proof.Tile
public import Idealize.ShloMosaic.PureOps.Ideal.Laws
public import Idealize.ShloMosaic.Lib.Pointwise

@[expose] public section

set_option maxRecDepth 16384

noncomputable section

namespace Cert.Mx

open Idealize.ShloMosaic
open scoped BigOperators

/-! ## Powers of two -/

/-- Two to the power `k - 127`, the value of a float whose exponent field is `k`. -/
def pw (k : ℤ) : EReal := (((2 : ℝ) ^ (k - 127) : ℝ) : EReal)

theorem pw_lt {j k : ℤ} (h : j < k) : pw j < pw k :=
  EReal.coe_lt_coe_iff.mpr (zpow_lt_zpow_right₀ (by norm_num) (by omega))

theorem pw_le {j k : ℤ} (h : j ≤ k) : pw j ≤ pw k :=
  EReal.coe_le_coe_iff.mpr (zpow_le_zpow_right₀ (by norm_num) (by omega))

theorem ofBits_f32 (w : BitVec 32) : Ideal.ofBits .f32 w = Ideal.ieee 8 23 w := rfl

/-- A word with exponent field `k`, no fraction and no sign. -/
theorem ieee_pow (w : BitVec 32) (k : ℕ) (he : (w.extractLsb' 23 8).toNat = k) (hf : (w.extractLsb' 0 23).toNat = 0)
    (hs : (w.extractLsb' (8 + 23) 1 == 1#1) = false) (h0 : 0 < k) (h1 : k < 255) : Ideal.ieee 8 23 w = pw k := by
  unfold Ideal.ieee
  simp only [he, hf, hs]
  rw [if_neg (by omega), if_neg (by omega)]
  unfold pw
  congr 1
  have h2 : (2 : ℝ) ≠ 0 := by norm_num
  rw [show ((k : ℤ) - (2 ^ (8 - 1) - 1) - ((23 : ℕ) : ℤ)) = ((k : ℤ) - 127) - 23 by norm_num, zpow_sub₀ h2]
  norm_num
  exact mul_div_cancel₀ _ (by norm_num)

/-- The word of the infinity. -/
theorem ieee_top (w : BitVec 32) (he : (w.extractLsb' 23 8).toNat = 255) (hf : (w.extractLsb' 0 23).toNat = 0)
    (hs : (w.extractLsb' (8 + 23) 1 == 1#1) = false) : Ideal.ieee 8 23 w = ⊤ := by
  unfold Ideal.ieee
  simp only [he, hf, hs]
  norm_num

theorem field_words : ∀ k : Fin 256,
      (BitVec.extractLsb' 23 8 (IntOp.shli .vector (BitVec.ofNat 32 k.val) 23#32)).toNat = k.val
      ∧ (BitVec.extractLsb' 0 23 (IntOp.shli .vector (BitVec.ofNat 32 k.val) 23#32)).toNat = 0
      ∧ (BitVec.extractLsb' (8 + 23) 1 (IntOp.shli .vector (BitVec.ofNat 32 k.val) 23#32) == 1#1) = false := by decide +kernel

/-- The float whose exponent field is the byte `k`, `0 < k < 255`, is `pw k`. -/
theorem ofBits_field (k : ℕ) (h0 : 0 < k) (h1 : k < 255) :
    Ideal.ofBits .f32 (IntOp.shli .vector (BitVec.ofNat 32 k) 23#32) = pw k := by
  have h := field_words ⟨k, by omega⟩
  rw [ofBits_f32]
  exact ieee_pow _ k h.1 h.2.1 h.2.2 h0 h1

theorem ofBits_field_top : Ideal.ofBits .f32 (IntOp.shli .vector (BitVec.ofNat 32 255) 23#32) = ⊤ := by
  have h := field_words ⟨255, by omega⟩
  rw [ofBits_f32]
  exact ieee_top _ h.1 h.2.1 h.2.2

theorem cmp_olt_pos {x y : EReal} (h : x < y) : Ideal.cmp .olt x y = 1#1 := by
  show BitVec.ofBool (decide (x < y)) = 1#1
  rw [decide_eq_true h]; rfl

theorem cmp_olt_neg {x y : EReal} (h : ¬x < y) : Ideal.cmp .olt x y = 0#1 := by
  show BitVec.ofBool (decide (x < y)) = 0#1
  rw [decide_eq_false h]; rfl

/-- `exp2` of an integer. -/
theorem exp2_int (z : ℤ) : Ideal.exp2 (((z : ℝ)) : EReal) = pw (z + 127) := by
  show ((Real.rpow 2 (z : ℝ) : ℝ) : EReal) = _
  unfold pw
  rw [show z + 127 - 127 = z by ring]
  congr 1
  exact Real.rpow_intCast 2 z

/-- A float built from the exponent `e` is two to the power `e`, for `-126 ≤ e ≤ 127`. -/
theorem pow2_eq (e : BitVec 32) (h0 : -126 ≤ e.toInt) (h1 : e.toInt ≤ 127) :
    Ideal.ofBits .f32 (IntOp.shli .vector (IntOp.addi e 127#32) 23#32) = Ideal.exp2 ((e.toInt : ℝ) : EReal) := by
  have hk : IntOp.addi e 127#32 = BitVec.ofNat 32 (e.toInt + 127).toNat := by
    apply BitVec.eq_of_toInt_eq
    show (e + 127#32).toInt = _
    have h127 : (127#32 : BitVec 32).toInt = 127 := by decide
    rw [BitVec.toInt_add, h127, BitVec.toInt_ofNat', Int.toNat_of_nonneg (by omega)]
  rw [hk, ofBits_field _ (by omega) (by omega), exp2_int, Int.toNat_of_nonneg (by omega)]

/-! ## The search -/

/-- One step of the search, at one element. -/
def probe1 (r : EReal) (b f : BitVec 32) : BitVec 32 :=
  Scalar.select (Ideal.cmp .olt r (Ideal.ofBits .f32 (IntOp.shli .vector (IntOp.ori f b) 23#32))) f (IntOp.ori f b)

/-- The exponent field of `r`, at one element. -/
def field1 (r : EReal) : BitVec 32 :=
  probe1 r 1#32 (probe1 r 2#32 (probe1 r 4#32 (probe1 r 8#32 (probe1 r 16#32 (probe1 r 32#32 (probe1 r 64#32
    (probe1 r 128#32 0#32)))))))

/-- What the search knows when the bits from `b` up are settled: the field `b * n` is at most `r`'s (or nothing is), and
    `b` more is too much. -/
def Inv (r : EReal) (b : ℕ) (f : BitVec 32) : Prop :=
  ∃ n : ℕ, f = BitVec.ofNat 32 (b * n) ∧ b * n + b ≤ 256 ∧ (b * n = 0 ∨ pw (b * n : ℕ) ≤ r) ∧ (b * n + b < 256 → r < pw (b * n + b : ℕ))

theorem probe_inv (r : EReal) (hr : r < pw 248) (b : ℕ) (hb : b ∈ ([1, 2, 4, 8, 16, 32, 64, 128] : List ℕ)) (f : BitVec 32)
    (h : Inv r (2 * b) f) : Inv r b (probe1 r (BitVec.ofNat 32 b) f) := by
  obtain ⟨n, rfl, hn, hlo, hhi⟩ := h
  have hor : ∀ b ∈ ([1, 2, 4, 8, 16, 32, 64, 128] : List ℕ), ∀ n : Fin 128, 2 * b * n.val + 2 * b ≤ 256 →
      IntOp.ori (BitVec.ofNat 32 (2 * b * n.val)) (BitVec.ofNat 32 b) = BitVec.ofNat 32 (2 * b * n.val + b) := by decide +kernel
  have hb0 : 0 < b := by
    rcases List.mem_cons.mp hb with rfl | hb
    · decide
    · simp at hb; omega
  have hn128 : n < 128 := by nlinarith
  have ho := hor b hb ⟨n, hn128⟩ hn
  simp only at ho
  unfold probe1
  rw [ho]
  have e1 : 2 * b * n = b * (2 * n) := by ring
  have e2 : 2 * b * n + b = b * (2 * n + 1) := by ring
  by_cases h255 : 2 * b * n + b = 255
  · -- the field of the infinity
    rw [h255, ofBits_field_top, cmp_olt_pos (lt_of_lt_of_le hr le_top)]
    refine ⟨2 * n, by rw [← e1]; rfl, by rw [← e1]; omega, by rw [← e1]; exact hlo, fun _ => ?_⟩
    rw [← e1, h255]
    exact lt_trans hr (pw_lt (by norm_num))
  · have hv := ofBits_field (2 * b * n + b) (by omega) (by omega)
    rw [hv]
    by_cases hlt : r < pw (2 * b * n + b : ℕ)
    · rw [cmp_olt_pos hlt]
      exact ⟨2 * n, by rw [← e1]; rfl, by rw [← e1]; omega, by rw [← e1]; exact hlo, fun _ => by rw [← e1]; exact hlt⟩
    · rw [cmp_olt_neg hlt]
      exact ⟨2 * n + 1, by rw [← e2]; rfl, by rw [← e2]; omega, by rw [← e2]; exact .inr (not_lt.mp hlt), by
        rw [← e2, show 2 * b * n + b + b = 2 * b * n + 2 * b by ring]; exact hhi⟩

/-- The field found: the number of powers of two, from two to the power -126 to two to the power 127, not above `r`. -/
def count (r : EReal) : ℕ := (Finset.univ.filter fun k : Fin 254 => pw (k.val + 1) ≤ r).card

theorem count_of (r : EReal) (n : ℕ) (hn : n ≤ 254) (hlo : n = 0 ∨ pw n ≤ r) (hhi : r < pw (n + 1 : ℕ)) : count r = n := by
  have : (Finset.univ.filter fun k : Fin 254 => pw (k.val + 1) ≤ r) = Finset.univ.filter fun k : Fin 254 => k.val < n := by
    ext k
    simp only [Finset.mem_filter, Finset.mem_univ, true_and]
    constructor
    · intro h
      by_contra hk
      exact absurd (lt_of_le_of_lt (le_trans (pw_le (by push_cast; omega)) h) hhi) (lt_irrefl _)
    · intro h
      rcases hlo with rfl | hlo
      · omega
      · exact le_trans (pw_le (by omega)) hlo
  unfold count
  rw [this]
  have h2 := Fin.card_filter_val_lt (n := 254) (m := n)
  rw [h2]; omega

/-- The search finds the count. -/
theorem field1_eq (r : EReal) (hr : r < pw 248) : field1 r = BitVec.ofNat 32 (count r) ∧ count r ≤ 247 := by
  have h0 : Inv r 256 0#32 := ⟨0, rfl, by norm_num, .inl rfl, fun h => absurd h (by norm_num)⟩
  have h := probe_inv r hr 1 (by decide) _ (probe_inv r hr 2 (by decide) _ (probe_inv r hr 4 (by decide) _ (probe_inv r hr 8 (by decide) _
    (probe_inv r hr 16 (by decide) _ (probe_inv r hr 32 (by decide) _ (probe_inv r hr 64 (by decide) _ (probe_inv r hr 128 (by decide) _ h0)))))))
  obtain ⟨n, hf, hn, hlo, hhi⟩ := h
  rw [one_mul] at hf hn hlo hhi
  have hn2 : n < 248 := by
    rcases hlo with h | h
    · omega
    · by_contra hc
      exact absurd (lt_of_le_of_lt (le_trans (pw_le (by push_cast; omega)) h) hr) (lt_irrefl _)
  have hc : count r = n := count_of r n (by omega) (by exact_mod_cast hlo) (hhi (by omega))
  rw [hc]
  exact ⟨hf, by omega⟩

/-- The exponent of a block whose ratio is `r`. -/
def expo1 (r : EReal) : BitVec 32 := Scalar.select (Ideal.cmp .oeq r 0) 0#32 (IntOp.subi (BitVec.ofNat 32 (count r)) 126#32)

theorem expo1_bounds (r : EReal) (hr : r < pw 248) : -126 ≤ (expo1 r).toInt ∧ (expo1 r).toInt ≤ 121 := by
  have hc := (field1_eq r hr).2
  unfold expo1 Scalar.select
  split
  · decide
  · have : ∀ k : Fin 248, -126 ≤ (IntOp.subi (BitVec.ofNat 32 k.val) 126#32).toInt ∧ (IntOp.subi (BitVec.ofNat 32 k.val) 126#32).toInt ≤ 121 := by
      decide +kernel
    exact this ⟨count r, by omega⟩

/-- The power of two the kernel builds from that exponent, and from its negative. -/
theorem pow2_expo1 (r : EReal) (hr : r < pw 248) :
    Ideal.ofBits .f32 (IntOp.shli .vector (IntOp.addi (expo1 r) 127#32) 23#32) = Ideal.exp2 (((expo1 r).toInt : ℝ) : EReal) := by
  have := expo1_bounds r hr
  exact pow2_eq _ this.1 (by omega)

theorem pow2_neg_expo1 (r : EReal) (hr : r < pw 248) :
    Ideal.ofBits .f32 (IntOp.shli .vector (IntOp.addi (IntOp.subi 0#32 (expo1 r)) 127#32) 23#32)
      = Ideal.exp2 (0 - (((expo1 r).toInt : ℝ) : EReal)) := by
  have := expo1_bounds r hr
  have hn : (IntOp.subi 0#32 (expo1 r)).toInt = -(expo1 r).toInt := by
    show (0#32 - expo1 r).toInt = _
    rw [BitVec.toInt_sub, show (0#32 : BitVec 32).toInt = 0 by decide, zero_sub]
    exact Int.bmod_eq_of_le (by omega) (by omega)
  rw [pow2_eq _ (by omega) (by omega), hn]
  congr 1
  rw [zero_sub, ← EReal.coe_neg]
  push_cast; rfl

/-! ## The largest of a block -/

/-- The maximum over the lanes reached from `l` by changing bits below `s`, doubled: bit `s` as well. -/
theorem hop_le (f g : ℕ → EReal) (s : ℕ) (hs : s ∈ ([1, 2, 4, 8, 16] : List ℕ)) (l : ℕ) (hl : l < 128) (c : EReal)
    (hg : ∀ l < 128, g l ≤ c ↔ ∀ u < s, f (l ^^^ u) ≤ c) :
    max (g l) (g (l ^^^ s)) ≤ c ↔ ∀ u < 2 * s, f (l ^^^ u) ≤ c := by
  have hx : ∀ s ∈ ([1, 2, 4, 8, 16] : List ℕ), ∀ u : Fin 32, u.val < s → s ^^^ u.val = s + u.val := by decide +kernel
  have hs16 : s ≤ 16 := by simp at hs; omega
  rw [max_le_iff, hg l hl, hg _ (Nat.xor_lt_two_pow (n := 7) hl (by omega))]
  constructor
  · rintro ⟨h1, h2⟩ u hu
    by_cases hlt : u < s
    · exact h1 u hlt
    · have := h2 (u - s) (by omega)
      have hxx := hx s hs ⟨u - s, by omega⟩ (by simp; omega)
      simp only at hxx
      rw [Nat.xor_assoc, hxx] at this
      rwa [show s + (u - s) = u by omega] at this
  · intro h
    refine ⟨fun u hu => h u (by omega), fun u hu => ?_⟩
    have hxx := hx s hs ⟨u, by omega⟩ hu
    simp only at hxx
    rw [Nat.xor_assoc, hxx]
    exact h _ (by omega)

/-- The lanes that differ from `l` below bit 5 are those of `l`'s block of 32. -/
theorem block_lanes (f : ℕ → EReal) (l : ℕ) (hl : l < 128) (c : EReal) :
    (∀ u < 32, f (l ^^^ u) ≤ c) ↔ ∀ k : Fin 32, f (32 * (l / 32) + k.val) ≤ c := by
  have h1 : ∀ l : Fin 128, ∀ k : Fin 32, (l.val ^^^ (32 * (l.val / 32) + k.val)) < 32 := by decide +kernel
  have h2 : ∀ l : Fin 128, ∀ u : Fin 32, (l.val ^^^ u.val) = 32 * (l.val / 32) + (l.val ^^^ u.val) % 32 := by decide +kernel
  constructor
  · intro h k
    have := h _ (h1 ⟨l, hl⟩ k)
    simp only at this
    rwa [← Nat.xor_assoc, Nat.xor_self, Nat.zero_xor] at this
  · intro h u hu
    have := h2 ⟨l, hl⟩ ⟨u, hu⟩
    simp only at this
    rw [this]
    exact h ⟨_, Nat.mod_lt _ (by norm_num)⟩

end Cert.Mx

end
-- ==== Proof.Spec.lean ====
/- What the three results are, element by element: the quantiser's codes, its scales, and the product of the dequantised
   operand with the dequantised weights. -/
module

public import proofs.«01_k».proof.Proof.Maths

@[expose] public section

noncomputable section

namespace Cert.Mx

open Idealize.ShloMosaic Idealize.ShloMosaic.TcCoe

/-- Column `k` of block `s`. -/
def at32 (s : Fin 144) (k : Fin 32) : Fin 4608 := ⟨32 * s.val + k.val, by omega⟩

/-- The block of column `j`. -/
def blkOf (j : Fin 4608) : Fin 144 := ⟨j.val / 32, by omega⟩

section
variable (x : Fin 256 → Fin 4608 → EReal) (w : Fin 4608 → Fin 7168 → EReal) (sc : Fin 144 → Fin 7168 → BitVec 8)

/-- The largest absolute value of a block. -/
def amax (i : Fin 256) (s : Fin 144) : EReal :=
  Finset.univ.fold max ⊥ fun k : Fin 32 => max (x i (at32 s k)) (-(x i (at32 s k)))

/-- That maximum over the largest code. -/
def rat (i : Fin 256) (s : Fin 144) : EReal := amax x i s * Ideal.ofBits .f32 0x3B124925#32

/-- The block's exponent. -/
def ex (i : Fin 256) (s : Fin 144) : BitVec 32 := expo1 (rat x i s)

/-- The code of an element. -/
def code (i : Fin 256) (j : Fin 4608) : EReal :=
  min (Ideal.ofBits .f32 0x43E00000#32) (max (Ideal.ofBits .f32 0xC3E00000#32)
    (x i j * Ideal.exp2 (0 - (((ex x i (blkOf j)).toInt : ℝ) : EReal))))

/-- The element as its code and its block's exponent give it back. -/
def deq (i : Fin 256) (j : Fin 4608) : EReal :=
  code x i j * Ideal.exp2 (((ex x i (blkOf j)).toInt : ℝ) : EReal)

/-- The block's scale byte. -/
def byte (i : Fin 256) (s : Fin 144) : BitVec 8 := (IntOp.addi (ex x i s) 127#32).setWidth 8

/-- The dequantised weight. -/
def wt (k : Fin 4608) (j : Fin 7168) : EReal :=
  w k j * Ideal.exp2 ((((IntOp.subi ((sc (blkOf k) j).setWidth 32) 127#32).toInt : ℝ)) : EReal)

/-- The product. -/
def prod (i : Fin 256) (j : Fin 7168) : EReal := ∑ k : Fin 4608, deq x i k * wt w sc k j

/-- Every block's exponent is in range. -/
def InRange : Prop := ∀ i s, rat x i s < pw 248

theorem amax_le (i : Fin 256) (s : Fin 144) (c : EReal) :
    amax x i s ≤ c ↔ ∀ k : Fin 32, max (x i (at32 s k)) (-(x i (at32 s k))) ≤ c := by
  unfold amax
  rw [Finset.fold_max_le]
  simp

end

end Cert.Mx

end
-- ==== Proof.TileValue.lean ====
/- A tile's codes, exponents and scales, element by element, at the extended reals. -/
module

public import proofs.«01_k».proof.Proof.Maths

@[expose] public section

set_option maxRecDepth 16384

noncomputable section

namespace Cert.KernelIdeal.Body

open Idealize.ShloMosaic Idealize.ShloMosaic.TcCoe
open Cert.KernelIdeal.Gen Cert.Mx
open scoped BigOperators

/-! ## Lane tables and the gather -/

/-- A table's entries that are lane numbers are read as they are. -/
theorem wrap_apply (p : IVec S256x128 32) (i : Fin 256) (l : Fin 128) (n : ℕ) (hn : n < 128)
    (h : p (ix2 i l) = BitVec.ofNat 32 n) : wrap p (ix2 i l) = BitVec.ofNat 32 n := by
  have hw : ∀ n : Fin 128, Scalar.select (IntOp.cmpi .slt (BitVec.ofNat 32 n.val) 0#32) (IntOp.addi (BitVec.ofNat 32 n.val) 128#32)
      (BitVec.ofNat 32 n.val) = BitVec.ofNat 32 n.val := by decide +kernel
  pointwise [wrap]
  rw [h]
  exact hw ⟨n, hn⟩

/-- The gather along the lanes. -/
theorem gather_apply {α : Type} (x : S256x128.Idx → α) (p : IVec S256x128 32) (i : Fin 256) (l : Fin 128) (n : ℕ) (hn : n < 128)
    (h : p (ix2 i l) = BitVec.ofNat 32 n) : dynamicGather 1 x p (ix2 i l) = x (ix2 i ⟨n, hn⟩) := by
  pointwise
  congr 2
  apply Fin.ext
  show (p (ix2 i l)).toNat % 128 = n
  rw [h, BitVec.toNat_ofNat]
  omega

theorem lane_apply (i : Fin 256) (l : Fin 128) : lane (ix2 i l) = BitVec.ofNat 32 l.val := by
  pointwise [lane]

/-- One step of the maximum over a block. -/
theorem hop_apply (s : ℕ) (hs : s < 32) (m : FVec Ideal S256x128 .f32) (i : Fin 256) (l : Fin 128) :
    hop (BitVec.ofNat 32 s) m (ix2 i l)
      = max (m (ix2 i l)) (m (ix2 i ⟨l.val ^^^ s, Nat.xor_lt_two_pow (n := 7) l.isLt (by omega)⟩)) := by
  have hx : ∀ l : Fin 128, ∀ s : Fin 32, IntOp.xori (BitVec.ofNat 32 l.val) (BitVec.ofNat 32 s.val) = BitVec.ofNat 32 (l.val ^^^ s.val) := by
    decide +kernel
  have hl : l.val ^^^ s < 128 := Nat.xor_lt_two_pow (n := 7) l.isLt (by omega)
  have h : wrap (xori lane (broadcast S256x128 (BitVec.ofNat 32 s))) (ix2 i l) = BitVec.ofNat 32 (l.val ^^^ s) := by
    apply wrap_apply _ _ _ _ hl
    show IntOp.xori (lane (ix2 i l)) (BitVec.ofNat 32 s) = _
    rw [lane_apply]
    exact hx l ⟨s, hs⟩
  show max (m (ix2 i l)) (dynamicGather 1 m (wrap (xori lane (broadcast S256x128 (BitVec.ofNat 32 s)))) (ix2 i l)) = _
  rw [gather_apply m _ i l _ hl h]

/-! ## The largest of a block -/

/-- A row's values by lane number. -/
def rowf (m : FVec Ideal S256x128 .f32) (i : Fin 256) (l : ℕ) : EReal := if h : l < 128 then m (ix2 i ⟨l, h⟩) else ⊥

theorem rowf_of_lt (m : FVec Ideal S256x128 .f32) (i : Fin 256) (l : ℕ) (h : l < 128) : rowf m i l = m (ix2 i ⟨l, h⟩) := dif_pos h

theorem rowf_hop (s : ℕ) (hs : s < 32) (m : FVec Ideal S256x128 .f32) (i : Fin 256) (l : ℕ) (hl : l < 128) :
    rowf (hop (BitVec.ofNat 32 s) m) i l = max (rowf m i l) (rowf m i (l ^^^ s)) := by
  rw [rowf_of_lt _ _ _ hl, rowf_of_lt _ _ _ hl, rowf_of_lt _ _ _ (Nat.xor_lt_two_pow (n := 7) hl (by omega)), hop_apply s hs]

theorem rowf_hop_le (f : ℕ → EReal) (s : ℕ) (hs : s ∈ ([1, 2, 4, 8, 16] : List ℕ)) (m : FVec Ideal S256x128 .f32) (i : Fin 256)
    (c : EReal) (h : ∀ l < 128, rowf m i l ≤ c ↔ ∀ u < s, f (l ^^^ u) ≤ c) :
    ∀ l < 128, rowf (hop (BitVec.ofNat 32 s) m) i l ≤ c ↔ ∀ u < 2 * s, f (l ^^^ u) ≤ c := by
  intro l hl
  rw [rowf_hop s (by simp at hs; omega) m i l hl]
  exact hop_le f (rowf m i) s hs l hl c h

/-- The five steps leave in every lane the largest absolute value of its block of 32. -/
theorem block_le (x : Vec Ideal S256x128 .bf16) (i : Fin 256) (l : Fin 128) (c : EReal) :
    block x (ix2 i l) ≤ c ↔ ∀ k : Fin 32, rowf (absf (wide x)) i (32 * (l.val / 32) + k.val) ≤ c := by
  have h0 : ∀ l < 128, rowf (absf (wide x)) i l ≤ c ↔ ∀ u < 1, rowf (absf (wide x)) i (l ^^^ u) ≤ c := by
    intro l _
    constructor
    · intro h u hu
      rw [show u = 0 by omega]; simpa using h
    · intro h
      simpa using h 0 (by norm_num)
  have h := rowf_hop_le _ 16 (by decide) _ i c (rowf_hop_le _ 8 (by decide) _ i c (rowf_hop_le _ 4 (by decide) _ i c
    (rowf_hop_le _ 2 (by decide) _ i c (rowf_hop_le _ 1 (by decide) _ i c h0)))) l.val l.isLt
  rw [rowf_of_lt _ _ _ l.isLt] at h
  exact h.trans (block_lanes _ _ l.isLt c)

/-! ## Exponents, codes, dequantised values, scales -/

theorem ofBits_zero : Ideal.ofBits .f32 0x00000000#32 = 0 := by
  rw [ofBits_f32]; unfold Ideal.ieee; simp

theorem probe_apply (r : FVec Ideal S256x128 .f32) (b : BitVec 32) (f : IVec S256x128 32) (j : S256x128.Idx) :
    probe r b f j = probe1 (r j) b (f j) := rfl

theorem field_apply (r : FVec Ideal S256x128 .f32) (j : S256x128.Idx) : field r j = field1 (r j) := by
  unfold field field1
  rw [probe_apply, probe_apply, probe_apply, probe_apply, probe_apply, probe_apply, probe_apply, probe_apply]
  rfl

theorem expo_apply (x : Vec Ideal S256x128 .bf16) (j : S256x128.Idx) (hr : ratio x j < pw 248) :
    expo x j = expo1 (ratio x j) := by
  have h : expo x j = Scalar.select (Ideal.cmp .oeq (ratio x j) (Ideal.ofBits .f32 0x00000000#32)) 0#32
      (IntOp.subi (field (ratio x) j) 126#32) := rfl
  rw [h, ofBits_zero, field_apply, (field1_eq _ hr).1]
  rfl

theorem codesT_apply (x : Vec Ideal S256x128 .bf16) (j : S256x128.Idx) (hr : ratio x j < pw 248) :
    codesT x j = min (Ideal.ofBits .f32 0x43E00000#32) (max (Ideal.ofBits .f32 0xC3E00000#32)
      (wide x j * Ideal.exp2 (0 - (((expo1 (ratio x j)).toInt : ℝ) : EReal)))) := by
  have h : codesT x j = min (Ideal.ofBits .f32 0x43E00000#32) (max (Ideal.ofBits .f32 0xC3E00000#32)
      (wide x j * Ideal.ofBits .f32 (IntOp.shli .vector (IntOp.addi (IntOp.subi 0#32 (expo x j)) 127#32) 23#32))) := rfl
  rw [h, expo_apply x j hr, pow2_neg_expo1 _ hr]

theorem deqT_apply (x : Vec Ideal S256x128 .bf16) (i : Fin 256) (l : Fin 128) (hr : ratio x (ix2 i l) < pw 248) :
    deqT x (ix2 i l) = codesT x (ix2 i l) * Ideal.exp2 (((expo1 (ratio x (ix2 i l))).toInt : ℝ) : EReal) := by
  have h : deqT x (ix2 i l) = codesT x (ix2 i l) * Ideal.ofBits .f32 (IntOp.shli .vector (IntOp.addi (expo x (ix2 i l)) 127#32) 23#32) := by
    pointwise [deqT, pow2]
  rw [h, expo_apply x _ hr, pow2_expo1 _ hr]

theorem lane4_apply (i : Fin 256) (l : Fin 128) : lane4 (ix2 i l) = BitVec.ofNat 32 (l.val % 4) := by
  have h : ∀ l : Fin 128, Scalar.select
      (IntOp.andi
        (IntOp.xori (IntOp.cmpi CmpIPredicate.slt (IntOp.remsi ArithUnit.vector (BitVec.ofNat 32 l.val) 4#32) 0#32)
          (Scalar.cmpi CmpIPredicate.slt 4#32 0#32))
        (IntOp.cmpi CmpIPredicate.ne (IntOp.remsi ArithUnit.vector (BitVec.ofNat 32 l.val) 4#32) 0#32))
      (IntOp.addi (IntOp.remsi ArithUnit.vector (BitVec.ofNat 32 l.val) 4#32) 4#32)
      (IntOp.remsi ArithUnit.vector (BitVec.ofNat 32 l.val) 4#32) = BitVec.ofNat 32 (l.val % 4) := by decide +kernel
  pointwise [lane4, lane]
  exact h l

/-- Lane `l` of a tile's scales holds that of its block `l % 4`. -/
theorem pieceT_apply (x : Vec Ideal S256x128 .bf16) (i : Fin 256) (l : Fin 128) :
    pieceT x (ix2 i l) = IntOp.addi (expo x (ix2 i ⟨32 * (l.val % 4), by omega⟩)) 127#32 := by
  have hm : ∀ l : Fin 128, IntOp.muli (BitVec.ofNat 32 (l.val % 4)) 32#32 = BitVec.ofNat 32 (32 * (l.val % 4)) := by decide +kernel
  have h : wrap (muli lane4 (broadcast S256x128 32#32)) (ix2 i l) = BitVec.ofNat 32 (32 * (l.val % 4)) := by
    apply wrap_apply _ _ _ _ (by omega)
    show IntOp.muli (lane4 (ix2 i l)) 32#32 = _
    rw [lane4_apply]
    exact hm l
  unfold pieceT
  rw [gather_apply _ _ i l _ (by omega) h]
  rfl

end Cert.KernelIdeal.Body

end
-- ==== Proof.KerValue.lean ====
/- The kernel's codes, dequantised operand and scales, element by element. -/
module

public import proofs.«01_k».proof.Proof.Spec
public import proofs.«01_k».proof.Proof.TileValue
public import proofs.«01_k».proof.Proof.Steps

@[expose] public section

set_option maxRecDepth 16384

noncomputable section

namespace Cert.KernelIdeal.Body

open Idealize.ShloMosaic Idealize.ShloMosaic.TcCoe
open Cert.KernelIdeal.Gen Cert.Mx

/-- A vector's elements by row and column. -/
def el (X : Vec Ideal S256x4608 .bf16) (i : Fin 256) (j : Fin 4608) : EReal := X (ix2 i j)

/-- The column of lane `l` of tile `t`. -/
def col (t : Fin 36) (l : Fin 128) : Fin 4608 := ⟨128 * t.val + l.val, by omega⟩

theorem tile_emb (t : Fin 36) (i : Fin 256) (l : Fin 128) : (tileRect t).emb (ix2 i l) = ix2 i (col t l) := by
  funext a
  apply Fin.ext
  fin_cases a
  · show 0 + 1 * i.val = i.val; omega
  · show 128 * t.val + 1 * l.val = 128 * t.val + l.val; omega

theorem tileOf_apply (X : Vec Ideal S256x4608 .bf16) (t : Fin 36) (i : Fin 256) (l : Fin 128) :
    tileOf X t (ix2 i l) = el X i (col t l) := by
  show X ((tileRect t).emb (ix2 i l)) = _
  rw [tile_emb]
  rfl

theorem wide_apply (x : Vec Ideal S256x128 .bf16) (i : Fin 256) (l : Fin 128) : wide x (ix2 i l) = x (ix2 i l) := by
  unfold wide
  pointwise

/-- The largest absolute value of a tile's block is the operand's. -/
theorem block_tile (X : Vec Ideal S256x4608 .bf16) (t : Fin 36) (i : Fin 256) (l : Fin 128) :
    block (tileOf X t) (ix2 i l) = amax (el X) i (blkOf (col t l)) := by
  apply eq_of_forall_ge_iff
  intro c
  rw [block_le, amax_le]
  apply forall_congr'
  intro k
  have hk : 32 * (l.val / 32) + k.val < 128 := by omega
  rw [rowf_of_lt _ _ _ hk]
  have hc : col t ⟨32 * (l.val / 32) + k.val, hk⟩ = at32 (blkOf (col t l)) k := by
    apply Fin.ext
    show 128 * t.val + (32 * (l.val / 32) + k.val) = 32 * ((128 * t.val + l.val) / 32) + k.val
    omega
  show max (wide (tileOf X t) (ix2 i ⟨_, hk⟩)) (-(wide (tileOf X t) (ix2 i ⟨_, hk⟩))) ≤ c ↔ _
  rw [wide_apply, tileOf_apply, hc]

theorem ratio_tile (X : Vec Ideal S256x4608 .bf16) (t : Fin 36) (i : Fin 256) (l : Fin 128) :
    ratio (tileOf X t) (ix2 i l) = rat (el X) i (blkOf (col t l)) := by
  show block (tileOf X t) (ix2 i l) * _ = _
  rw [block_tile]
  rfl

section
variable (X : Vec Ideal S256x4608 .bf16) (hX : InRange (el X))
include hX

theorem codesT_tile (t : Fin 36) (i : Fin 256) (l : Fin 128) : codesT (tileOf X t) (ix2 i l) = code (el X) i (col t l) := by
  have hr : ratio (tileOf X t) (ix2 i l) < pw 248 := by rw [ratio_tile]; exact hX _ _
  rw [codesT_apply _ _ hr, ratio_tile, wide_apply, tileOf_apply]
  rfl

theorem deqT_tile (t : Fin 36) (i : Fin 256) (l : Fin 128) : deqT (tileOf X t) (ix2 i l) = deq (el X) i (col t l) := by
  have hr : ratio (tileOf X t) (ix2 i l) < pw 248 := by rw [ratio_tile]; exact hX _ _
  rw [deqT_apply _ _ _ hr, codesT_tile X hX, ratio_tile]
  rfl

/-- The codes are the specification's. -/
theorem codesOf_apply (y : S256x4608.Idx) : codesOf X y = code (el X) (y 0) (y 1) := by
  unfold codesOf
  refine View.canon_apply_of_pieces (Val := Elt Ideal) (S := S256x4608) (e := .fp8e4m3) (fun y : S256x4608.Idx => (code (el X) (y 0) (y 1) : Elt Ideal .fp8e4m3))
    (piecesOf codesT X) ?_ y (cover_pieces (F := Ideal) (e := .fp8e4m3) codesT X y)
  intro p hp
  obtain ⟨t, _, rfl⟩ := List.mem_map.mp hp
  intro (x : S256x128.Idx)
  obtain ⟨i, l, rfl⟩ : ∃ i l, x = ix2 i l := ⟨x 0, x 1, eq_ix2 x⟩
  show codesT (tileOf X t) (ix2 i l) = code (el X) ((tileRect t).emb (ix2 i l) 0) ((tileRect t).emb (ix2 i l) 1)
  rw [tile_emb, codesT_tile X hX]
  rfl

/-- The dequantised operand is the specification's. -/
theorem deqOf_apply (y : S256x4608.Idx) : deqOf X y = deq (el X) (y 0) (y 1) := by
  unfold deqOf
  refine View.canon_apply_of_pieces (Val := Elt Ideal) (S := S256x4608) (e := .bf16) (fun y : S256x4608.Idx => (deq (el X) (y 0) (y 1) : Elt Ideal .bf16))
    (piecesOf deqT X) ?_ y (cover_pieces (F := Ideal) (e := .bf16) deqT X y)
  intro p hp
  obtain ⟨t, _, rfl⟩ := List.mem_map.mp hp
  intro (x : S256x128.Idx)
  obtain ⟨i, l, rfl⟩ : ∃ i l, x = ix2 i l := ⟨x 0, x 1, eq_ix2 x⟩
  show deqT (tileOf X t) (ix2 i l) = deq (el X) ((tileRect t).emb (ix2 i l) 0) ((tileRect t).emb (ix2 i l) 1)
  rw [tile_emb, deqT_tile X hX]
  rfl

end

/-! ## The scales -/

theorem put_apply (u : ℕ) (hu : u < 32) (p acc : IVec S256x128 32) (i : Fin 256) (l : Fin 128) :
    put (BitVec.ofNat 32 (4 * u)) (BitVec.ofNat 32 (4 * u + 4)) p acc (ix2 i l)
      = if u = l.val / 4 then p (ix2 i l) else acc (ix2 i l) := by
  have h : ∀ u : Fin 32, ∀ l : Fin 128, IntOp.andi (IntOp.cmpi .sge (BitVec.ofNat 32 l.val) (BitVec.ofNat 32 (4 * u.val)))
      (IntOp.cmpi .slt (BitVec.ofNat 32 l.val) (BitVec.ofNat 32 (4 * u.val + 4))) = BitVec.ofBool (decide (u.val = l.val / 4)) := by
    decide +kernel
  show Scalar.select (IntOp.andi (IntOp.cmpi .sge (lane (ix2 i l)) (BitVec.ofNat 32 (4 * u)))
      (IntOp.cmpi .slt (lane (ix2 i l)) (BitVec.ofNat 32 (4 * u + 4)))) (p (ix2 i l)) (acc (ix2 i l)) = _
  rw [lane_apply, h ⟨u, hu⟩ l]
  by_cases he : u = l.val / 4
  · rw [if_pos he]; simp only [he, decide_true]; rfl
  · rw [if_neg he]; simp only [he, decide_false]; rfl

/-- Lane `l` of the tiles' scales side by side holds that of the tile numbered `l / 4`. -/
theorem gather_scales (P : Fin 36 → IVec S256x128 32) (base : ℕ) (i : Fin 256) (l : Fin 128) (q : BitVec 32) (ts : List (Fin 36))
    (hts : ∀ t ∈ ts, t.val - base < 32) (hq : ∀ t ∈ ts, t.val - base = l.val / 4 → P t (ix2 i l) = q) :
    ∀ acc : IVec S256x128 32, (acc (ix2 i l) = q ∨ ∃ t ∈ ts, t.val - base = l.val / 4) →
      (ts.foldl (fun acc t => put (BitVec.ofNat 32 (4 * (t.val - base))) (BitVec.ofNat 32 (4 * (t.val - base) + 4)) (P t) acc) acc) (ix2 i l) = q := by
  induction ts with
  | nil =>
    intro acc h
    rcases h with h | ⟨t, ht, _⟩
    · exact h
    · exact absurd ht (by simp)
  | cons t ts ih =>
    intro acc h
    rw [List.foldl_cons]
    apply ih (fun t ht => hts t (List.mem_cons_of_mem _ ht)) (fun t ht => hq t (List.mem_cons_of_mem _ ht))
    rw [put_apply _ (hts t List.mem_cons_self)]
    by_cases he : t.val - base = l.val / 4
    · rw [if_pos he]
      exact .inl (hq t List.mem_cons_self he)
    · rw [if_neg he]
      rcases h with h | ⟨t', ht', he'⟩
      · exact .inl h
      · rcases List.mem_cons.mp ht' with rfl | ht'
        · exact absurd he' he
        · exact .inr ⟨t', ht', he'⟩

section
variable (X : Vec Ideal S256x4608 .bf16) (hX : InRange (el X))
include hX

theorem pieceT_tile (t : Fin 36) (i : Fin 256) (l : Fin 128) (s : Fin 144) (hs : s.val = 4 * t.val + l.val % 4) :
    pieceT (tileOf X t) (ix2 i l) = IntOp.addi (ex (el X) i s) 127#32 := by
  have hb : blkOf (col t ⟨32 * (l.val % 4), by omega⟩) = s := by
    apply Fin.ext
    show (128 * t.val + 32 * (l.val % 4)) / 32 = s.val
    omega
  have hr : ratio (tileOf X t) (ix2 i ⟨32 * (l.val % 4), by omega⟩) < pw 248 := by rw [ratio_tile]; exact hX _ _
  rw [pieceT_apply, expo_apply _ _ hr, ratio_tile, hb]
  rfl

theorem gather4_apply (base : ℕ) (ts : List (Fin 36)) (hts : ∀ t ∈ ts, base ≤ t.val ∧ t.val - base < 32) (i : Fin 256) (l : Fin 128)
    (h : ∃ t ∈ ts, t.val - base = l.val / 4) (s : Fin 144) (hs : s.val = 4 * base + l.val) :
    gather4 (fun t => pieceT (tileOf X t)) base ts (ix2 i l) = IntOp.addi (ex (el X) i s) 127#32 := by
  refine gather_scales _ base i l _ ts (fun t ht => (hts t ht).2) (fun t ht he => ?_) _ (.inr h)
  apply pieceT_tile X hX
  have := (hts t ht).1
  omega

/-- The scales are the specification's. -/
theorem scaleOf_apply (y : S256x144.Idx) : scaleOf X y = byte (el X) (y 0) (y 1) := by
  unfold scaleOf
  refine View.canon_apply_of_pieces (Val := Elt Ideal) (S := S256x144) (e := .i8) (fun y : S256x144.Idx => (byte (el X) (y 0) (y 1) : Elt Ideal .i8))
    (scalePieces (F := Ideal) fun t => pieceT (tileOf X t)) ?_ y (cover_scale (F := Ideal) _ y)
  intro p hp
  rcases List.mem_cons.mp hp with rfl | hp
  · intro (x : S256x16.Idx)
    obtain ⟨i, l, rfl⟩ : ∃ i l, x = ix2 i l := ⟨x 0, x 1, eq_ix2 x⟩
    show (extractStridedSlice S256x16 ![0, 0] (gather4 (fun t => pieceT (tileOf X t)) 32 [32, 33, 34, 35]) slices_S256x128_o0_0_S256x16 (ix2 i l)).setWidth 8
      = byte (el X) ((Rect.unit (s := S256x144) ![0, 128] S256x16.size inb_S256x144_S256x16_0_128).emb (ix2 i l) 0)
          ((Rect.unit (s := S256x144) ![0, 128] S256x16.size inb_S256x144_S256x16_0_128).emb (ix2 i l) 1)
    have he : (Rect.unit (s := S256x144) ![0, 128] S256x16.size inb_S256x144_S256x16_0_128).emb (ix2 i l) = ix2 i ⟨128 + l.val, by omega⟩ := by
      funext a
      apply Fin.ext
      fin_cases a
      · show 0 + 1 * i.val = i.val; omega
      · show 128 + 1 * l.val = 128 + l.val; omega
    have hs : extractStridedSlice S256x16 ![0, 0] (gather4 (fun t => pieceT (tileOf X t)) 32 [32, 33, 34, 35]) slices_S256x128_o0_0_S256x16 (ix2 i l)
        = gather4 (fun t => pieceT (tileOf X t)) 32 [32, 33, 34, 35] (ix2 i ⟨l.val, by omega⟩) := by
      pointwise
    have hl : ∀ l : Fin 16, ∃ t ∈ ([32, 33, 34, 35] : List (Fin 36)), t.val - 32 = l.val / 4 := by decide +kernel
    rw [he, hs, gather4_apply X hX 32 _ (by decide +kernel) i _ (hl l) ⟨128 + l.val, by omega⟩ rfl]
    rfl
  · rcases List.mem_singleton.mp hp with rfl
    intro (x : S256x128.Idx)
    obtain ⟨i, l, rfl⟩ : ∃ i l, x = ix2 i l := ⟨x 0, x 1, eq_ix2 x⟩
    show (gather4 (fun t => pieceT (tileOf X t)) 0 [0, 1, 2, 3, 4, 5, 6, 7, 8, 9, 10, 11, 12, 13, 14, 15, 16, 17, 18, 19, 20, 21, 22, 23, 24, 25, 26, 27, 28, 29, 30, 31] (ix2 i l)).setWidth 8
      = byte (el X) ((Rect.unit (s := S256x144) ![0, 0] S256x128.size inb_S256x144_S256x128_0_0).emb (ix2 i l) 0)
          ((Rect.unit (s := S256x144) ![0, 0] S256x128.size inb_S256x144_S256x128_0_0).emb (ix2 i l) 1)
    have he : (Rect.unit (s := S256x144) ![0, 0] S256x128.size inb_S256x144_S256x128_0_0).emb (ix2 i l) = ix2 i ⟨l.val, by omega⟩ := by
      funext a
      apply Fin.ext
      fin_cases a
      · show 0 + 1 * i.val = i.val; omega
      · show 0 + 1 * l.val = l.val; omega
    have hl : ∀ l : Fin 128, ∃ t ∈ ([0, 1, 2, 3, 4, 5, 6, 7, 8, 9, 10, 11, 12, 13, 14, 15, 16, 17, 18, 19, 20, 21, 22, 23, 24, 25, 26, 27, 28, 29, 30, 31] : List (Fin 36)), t.val - 0 = l.val / 4 := by
      decide +kernel
    rw [he, gather4_apply X hX 0 _ (by decide +kernel) i l (hl l) ⟨l.val, by omega⟩ (by simp)]
    rfl

end

end Cert.KernelIdeal.Body

end
-- ==== Proof.KerDot.lean ====
/- A block of the kernel's product, element by element. -/
module

public import proofs.«01_k».proof.Proof.KerValue

@[expose] public section

set_option maxRecDepth 16384

noncomputable section

namespace Cert.KernelIdeal.Body

open Idealize.ShloMosaic Idealize.ShloMosaic.TcCoe
open Cert.KernelIdeal.Gen Cert.Mx

/-- A scale byte that is neither 0 nor 255, as the exponent field of a float, is the power of two of the byte less 127. -/
theorem byte_pow (b : BitVec 8) (h1 : 1 ≤ b.toNat) (h2 : b.toNat ≤ 254) :
    Ideal.ofBits .f32 (IntOp.shli .vector (b.setWidth 32) 23#32)
      = Ideal.exp2 (((IntOp.subi (b.setWidth 32) 127#32).toInt : ℝ) : EReal) := by
  have hb : b.setWidth 32 = BitVec.ofNat 32 b.toNat := by
    apply BitVec.eq_of_toNat_eq
    rw [BitVec.toNat_setWidth, BitVec.toNat_ofNat]
  have hs : ∀ k : Fin 256, (IntOp.subi (BitVec.ofNat 32 k.val) 127#32).toInt = (k.val : ℤ) - 127 := by decide +kernel
  rw [hb, ofBits_field b.toNat (by omega) (by omega), hs ⟨b.toNat, by omega⟩, exp2_int]
  congr 1
  show (b.toNat : ℤ) = (b.toNat : ℤ) - 127 + 127
  omega

/-- The weight a chunk uses. -/
def wtC (w : Vec Ideal S512x512 .fp8e4m3) (s : Vec Ideal S16x512 .i8) (k j : Fin 512) : EReal :=
  w (ix2 k j) * Ideal.ofBits .f32 (IntOp.shli .vector (BitVec.setWidth 32 (s (ix2 ⟨k.val / 32, by omega⟩ j))) 23#32)

theorem weightsC_apply (w : Vec Ideal S512x512 .fp8e4m3) (s : Vec Ideal S16x512 .i8) (k j : Fin 512) :
    weightsC w s (ix2 k j) = wtC w s k j := by
  unfold weightsC wtC
  pointwise <;> rfl

theorem chunkDot_apply (d : Vec Ideal S256x512 .bf16) (w : Vec Ideal S512x512 .fp8e4m3) (s : Vec Ideal S16x512 .i8) (i : Fin 256) (j : Fin 512) :
    chunkDot d w s (ix2 i j) = ∑ k : Fin 512, d (ix2 i k) * wtC w s k j := by
  have h : chunkDot d w s (ix2 i j) = ∑ k : Fin 512, d (ix2 i k) * weightsC w s (ix2 k j) := by
    unfold chunkDot
    pointwise <;> rfl
  rw [h]
  simp only [weightsC_apply]

/-- A sum of vectors, read at an index. -/
theorem foldl_addf {ι : Type} (f : ι → FVec Ideal S256x512 .f32) (y : S256x512.Idx) (ks : List ι) :
    ∀ a : FVec Ideal S256x512 .f32, (ks.foldl (fun acc k => addf acc (f k)) a) y = (a y : EReal) + (ks.map fun k => (f k y : EReal)).sum := by
  induction ks with
  | nil => intro a; exact (add_zero (a y : EReal)).symm
  | cons k ks ih =>
    intro a
    rw [List.foldl_cons, ih, List.map_cons, List.sum_cons]
    exact add_assoc (a y : EReal) (f k y) _

/-- Row `k` of chunk `n`. -/
def chunkRow (n : Fin 9) (k : Fin 512) : Fin 4608 := ⟨512 * n.val + k.val, by omega⟩

/-- A sum over the rows is the sum of the chunks' sums. -/
theorem sum_chunks (f : Fin 4608 → EReal) : ∑ n : Fin 9, ∑ k : Fin 512, f (chunkRow n k) = ∑ k : Fin 4608, f k := by
  rw [← Fintype.sum_prod_type']
  apply Fintype.sum_equiv (finProdFinEquiv (m := 9) (n := 512))
  rintro ⟨n, k⟩
  congr 1
  apply Fin.ext
  show 512 * n.val + k.val = k.val + 512 * n.val
  omega

theorem colRect_emb (n : Fin 9) (i : Fin 256) (k : Fin 512) : (colRect n).emb (ix2 i k) = ix2 i (chunkRow n k) := by
  funext a
  apply Fin.ext
  fin_cases a
  · show 0 + 1 * i.val = i.val; omega
  · show 512 * n.val + 1 * k.val = 512 * n.val + k.val; omega

theorem rowRect_emb (n : Fin 9) (k j : Fin 512) : (rowRect n).emb (ix2 k j) = ix2 (chunkRow n k) j := by
  funext a
  apply Fin.ext
  fin_cases a
  · show 512 * n.val + 1 * k.val = 512 * n.val + k.val; omega
  · show 0 + 1 * j.val = j.val; omega

theorem srowRect_emb (n : Fin 9) (k j : Fin 512) :
    (srowRect n).emb (ix2 (⟨k.val / 32, by omega⟩ : Fin 16) j) = ix2 (blkOf (chunkRow n k)) j := by
  funext a
  apply Fin.ext
  fin_cases a
  · show 16 * n.val + 1 * (k.val / 32) = (512 * n.val + k.val) / 32; omega
  · show 0 + 1 * j.val = j.val; omega

/-- An element of a product block: the sum over all rows of the operand's elements times the dequantised weights. -/
theorem dxOf_apply (D : Vec Ideal S256x4608 .bf16) (W : Vec Ideal S4608x512 .fp8e4m3) (S : Vec Ideal S144x512 .i8)
    (hS : ∀ s j, 1 ≤ (S (ix2 s j)).toNat ∧ (S (ix2 s j)).toNat ≤ 254) (i : Fin 256) (j : Fin 512) :
    dxOf D W S (ix2 i j) = ∑ k : Fin 4608, (D (ix2 i k) : EReal) * ((W (ix2 k j) : EReal)
      * Ideal.exp2 (((IntOp.subi ((S (ix2 (blkOf k) j)).setWidth 32) 127#32).toInt : ℝ) : EReal)) := by
  have h : dxOf D W S (ix2 i j) = ([0, 1, 2, 3, 4, 5, 6, 7, 8] : List (Fin 9)).foldl
      (fun acc k => addf acc (chunkDot (View.ld D (colRect k)) (View.ld W (rowRect k)) (View.ld S (srowRect k))))
      (broadcast S256x512 (Scalar.ofBits .f32 0x00000000#32) : FVec Ideal S256x512 .f32) (ix2 i j) := rfl
  rw [h, foldl_addf, ← sum_chunks]
  have h0 : ((broadcast S256x512 (Scalar.ofBits .f32 0x00000000#32) : FVec Ideal S256x512 .f32) (ix2 i j) : EReal) = 0 := ofBits_zero
  have hl (g : Fin 9 → EReal) : (([0, 1, 2, 3, 4, 5, 6, 7, 8] : List (Fin 9)).map g).sum = ∑ n : Fin 9, g n := by
    rw [← List.sum_ofFn]
    rfl
  rw [h0, zero_add, hl]
  apply Finset.sum_congr rfl
  intro n _
  refine (chunkDot_apply _ _ _ i j).trans ?_
  apply Finset.sum_congr rfl
  intro k _
  unfold wtC
  show D ((colRect n).emb (ix2 i k)) * (W ((rowRect n).emb (ix2 k j)) * Ideal.ofBits .f32 (IntOp.shli .vector
    (BitVec.setWidth 32 (S ((srowRect n).emb (ix2 (⟨k.val / 32, by omega⟩ : Fin 16) j)))) 23#32)) = _
  rw [colRect_emb, rowRect_emb, srowRect_emb, byte_pow _ (hS _ _).1 (hS _ _).2]

end Cert.KernelIdeal.Body

end
-- ==== Proof.KerArrays.lean ====
/- The kernel's result arrays, element by element. -/
module

public import proofs.«01_k».proof.Proof.KerDot
public import proofs.«01_k».proof.Proof.Frame

@[expose] public section

set_option maxRecDepth 16384

noncomputable section

namespace Cert.KernelIdeal.Body

open Idealize.ShloMosaic Idealize.ShloMosaic.TcCoe Idealize.SL.Sem
open Idealize.ShloMosaic.Pipeline (Dat)
open Cert.KernelIdeal Cert.KernelIdeal.Gen Cert.Mx

/-! ## The windows' index maps -/

theorem index0 : ∀ (t : Fin cfg0.N) (a : Fin 2), win0_0.index t a = 0 :=
  (by decide +kernel : ∀ (t : Fin grid0.N) (a : Fin 2), win0_0.index t a = 0)
theorem index4 : ∀ (t : Fin cfg0.N) (a : Fin 2), win0_4.index t a = 0 :=
  (by decide +kernel : ∀ (t : Fin grid0.N) (a : Fin 2), win0_4.index t a = 0)
theorem index5 : ∀ (t : Fin cfg0.N) (a : Fin 2), win0_5.index t a = 0 :=
  (by decide +kernel : ∀ (t : Fin grid0.N) (a : Fin 2), win0_5.index t a = 0)
theorem index1 : ∀ t : Fin cfg0.N, win0_1.index t 0 = 0 ∧ win0_1.index t 1 = t.val :=
  (by decide +kernel : ∀ t : Fin grid0.N, win0_1.index t 0 = 0 ∧ win0_1.index t 1 = t.val)
theorem index2 : ∀ t : Fin cfg0.N, win0_2.index t 0 = 0 ∧ win0_2.index t 1 = t.val :=
  (by decide +kernel : ∀ t : Fin grid0.N, win0_2.index t 0 = 0 ∧ win0_2.index t 1 = t.val)
theorem index3 : ∀ t : Fin cfg0.N, win0_3.index t 0 = 0 ∧ win0_3.index t 1 = t.val :=
  (by decide +kernel : ∀ t : Fin grid0.N, win0_3.index t 0 = 0 ∧ win0_3.index t 1 = t.val)

/-- Column `j` of block `t`. -/
def wcol (t : Fin cfg0.N) (j : Fin 512) : Fin 7168 := ⟨t.val * 512 + j.val, by
  have h : t.val < 14 := lt_of_lt_of_eq t.isLt N_0
  omega⟩

theorem emb1 (t : Fin cfg0.N) (k : Fin 4608) (j : Fin 512) : (win0_1.rect t).emb (ix2 k j) = ix2 k (wcol t j) := by
  funext a
  apply Fin.ext
  rw [win0_1.rect_emb_val t]
  fin_cases a
  · show win0_1.index t 0 * 4608 + k.val = k.val
    rw [(index1 t).1]; omega
  · show win0_1.index t 1 * 512 + j.val = t.val * 512 + j.val
    rw [(index1 t).2]

theorem emb2 (t : Fin cfg0.N) (s : Fin 144) (j : Fin 512) : (win0_2.rect t).emb (ix2 s j) = ix2 s (wcol t j) := by
  funext a
  apply Fin.ext
  rw [win0_2.rect_emb_val t]
  fin_cases a
  · show win0_2.index t 0 * 144 + s.val = s.val
    rw [(index2 t).1]; omega
  · show win0_2.index t 1 * 512 + j.val = t.val * 512 + j.val
    rw [(index2 t).2]

theorem emb3 (t : Fin cfg0.N) (i : Fin 256) (j : Fin 512) : (win0_3.rect t).emb (ix2 i j) = ix2 i (wcol t j) := by
  funext a
  apply Fin.ext
  rw [win0_3.rect_emb_val t]
  fin_cases a
  · show win0_3.index t 0 * 256 + i.val = i.val
    rw [(index3 t).1]; omega
  · show win0_3.index t 1 * 512 + j.val = t.val * 512 + j.val
    rw [(index3 t).2]

variable (m : (ℓ : Loc nD τ sig) → Buf (Elt Ideal) ℓ)

/-! ## The blocks the body finds -/

theorem iblk0 (c : Dev nD) (t : Fin cfg0.N) : iblk m c 0 t = V m c main_v0 := by
  funext y
  show V m c main_v0 ((win0_0.rect t).emb y) = _
  congr 1
  funext a
  apply Fin.ext
  exact win0_0.rect_emb_val_of_index_zero t a (index0 t a) y

theorem iblk1 (c : Dev nD) (t : Fin cfg0.N) (k : Fin 4608) (j : Fin 512) : iblk m c 1 t (ix2 k j) = V m c main_arg1 (ix2 k (wcol t j)) := by
  show V m c main_arg1 ((win0_1.rect t).emb (ix2 k j)) = _
  rw [emb1]

theorem iblk2 (c : Dev nD) (t : Fin cfg0.N) (s : Fin 144) (j : Fin 512) : iblk m c 2 t (ix2 s j) = V m c main_arg2 (ix2 s (wcol t j)) := by
  show V m c main_arg2 ((win0_2.rect t).emb (ix2 s j)) = _
  rw [emb2]

/-- The operand as the region finds it: the first argument with its leading axes merged. -/
theorem V_v0 (c : Dev nD) : V m c main_v0 = shapeCast S256x4608 (m ((c : Thread nD τ).loc main_arg0)) shapeCasts_S2x128x4608_S256x4608 := by
  entry_read
  rfl

/-! ## What is written back -/

theorem flushed3 (c : Dev nD) (t : Fin cfg0.N) :
    (dats m 0 c).flushed 3 t = (cfg0.win 3).cut (grid0.coords t) (dxOf (deqOf (X0 m c)) (iblk m c 1 t) (iblk m c 2 t)) := by
  show (cfg0.win 3).cut (grid0.coords t) ((dats m 0 c).after 3 t) = _
  rw [after0_3]

theorem flushed4 (c : Dev nD) (t : Fin cfg0.N) :
    (dats m 0 c).flushed 4 t = (cfg0.win 4).cut (grid0.coords t) (codesOf (X0 m c)) := by
  show (cfg0.win 4).cut (grid0.coords t) ((dats m 0 c).after 4 t) = _
  rw [after0_4]

theorem flushed5 (c : Dev nD) (t : Fin cfg0.N) :
    (dats m 0 c).flushed 5 t = (cfg0.win 5).cut (grid0.coords t) (scaleOf (X0 m c)) := by
  show (cfg0.win 5).cut (grid0.coords t) ((dats m 0 c).after 5 t) = _
  rw [after0_5]

theorem idx_inj3 : ∀ t t' : Fin cfg0.N, win0_3.index t = win0_3.index t' → t = t' := fun t t' h => by
  apply Fin.ext
  rw [← (index3 t).2, ← (index3 t').2, h]

/-- Two points' blocks of the product share no element. -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- Only the last point writes the codes back, -/
theorem disjoint4 : ∀ t t' : Fin cfg0.N, (cfg0.win 4).flush t = true → (cfg0.win 4).flush t' = true → t ≠ t' →
    Disjoint ((cfg0.win 4).blk t).view.set ((cfg0.win 4).blk t').view.set := fun t t' h h' hne => by
  refine absurd (Fin.ext ?_) hne
  have h1 := (flush0_4 t).mp h
  have h2 := (flush0_4 t').mp h'
  have h3 : t.val < 14 := lt_of_lt_of_eq t.isLt N_0
  have h4 : t'.val < 14 := lt_of_lt_of_eq t'.isLt N_0
  omega

/-- and the scales. -/
theorem disjoint5 : ∀ t t' : Fin cfg0.N, (cfg0.win 5).flush t = true → (cfg0.win 5).flush t' = true → t ≠ t' →
    Disjoint ((cfg0.win 5).blk t).view.set ((cfg0.win 5).blk t').view.set := fun t t' h h' hne => by
  refine absurd (Fin.ext ?_) hne
  have h1 := (flush0_5 t).mp h
  have h2 := (flush0_5 t').mp h'
  have h3 : t.val < 14 := lt_of_lt_of_eq t.isLt N_0
  have h4 : t'.val < 14 := lt_of_lt_of_eq t'.isLt N_0
  omega

/-! ## The arrays after the run -/

/-- The last point. -/
abbrev ptL : Fin cfg0.N := ⟨13, by rw [show cfg0.N = 14 from N_0]; decide⟩

theorem final4 (c : Dev nD) : (dats m 0 c).arrAt 4 cfg0.N = codesOf (X0 m c) := by
  funext y
  have h := congrFun ((dats m 0 c).read_blk_arrAt_eq_flushed 4 disjoint4 cfg0.N ptL ptL.isLt ((flush0_4 ptL).mpr rfl)) y
  rw [flushed4] at h
  refine Eq.trans ?_ h
  show _ = (dats m 0 c).arrAt 4 cfg0.N ((win0_4.rect ptL).emb y)
  congr 1
  funext a
  apply Fin.ext
  exact (win0_4.rect_emb_val_of_index_zero ptL a (index4 ptL a) y).symm

theorem final5 (c : Dev nD) : (dats m 0 c).arrAt 5 cfg0.N = scaleOf (X0 m c) := by
  funext y
  have h := congrFun ((dats m 0 c).read_blk_arrAt_eq_flushed 5 disjoint5 cfg0.N ptL ptL.isLt ((flush0_5 ptL).mpr rfl)) y
  rw [flushed5] at h
  refine Eq.trans ?_ h
  show _ = (dats m 0 c).arrAt 5 cfg0.N ((win0_5.rect ptL).emb y)
  congr 1
  funext a
  apply Fin.ext
  exact (win0_5.rect_emb_val_of_index_zero ptL a (index5 ptL a) y).symm

theorem final3 (c : Dev nD) (t : Fin cfg0.N) (i : Fin 256) (j : Fin 512) :
    (dats m 0 c).arrAt 3 cfg0.N (ix2 i (wcol t j)) = dxOf (deqOf (X0 m c)) (iblk m c 1 t) (iblk m c 2 t) (ix2 i j) := by
  have h := congrFun ((dats m 0 c).read_blk_arrAt_eq_flushed 3 disjoint3 cfg0.N t t.isLt (flush0_3 t)) (ix2 i j)
  rw [flushed3] at h
  refine Eq.trans ?_ h
  show _ = (dats m 0 c).arrAt 3 cfg0.N ((win0_3.rect t).emb (ix2 i j))
  rw [emb3]

section
variable (c : Dev nD) (hX : InRange (el (V m c main_v0)))
  (hS : ∀ s j, 1 ≤ (V m c main_arg2 (ix2 s j)).toNat ∧ (V m c main_arg2 (ix2 s j)).toNat ≤ 254)
include hX

/-- The codes' array, -/
theorem arr4 (i : Fin 256) (j : Fin 4608) : (dats m 0 c).arrAt 4 cfg0.N (ix2 i j) = code (el (V m c main_v0)) i j := by
  rw [final4]
  unfold X0
  rw [iblk0]
  exact codesOf_apply _ hX (ix2 i j)

/-- the scales', -/
theorem arr5 (i : Fin 256) (s : Fin 144) : (dats m 0 c).arrAt 5 cfg0.N (ix2 i s) = byte (el (V m c main_v0)) i s := by
  rw [final5]
  unfold X0
  rw [iblk0]
  exact scaleOf_apply _ hX (ix2 i s)

include hS

/-- and the product's. -/
theorem arr3 (i : Fin 256) (j : Fin 7168) : (dats m 0 c).arrAt 3 cfg0.N (ix2 i j)
    = prod (el (V m c main_v0)) (fun k j => V m c main_arg1 (ix2 k j)) (fun s j => V m c main_arg2 (ix2 s j)) i j := by
  obtain ⟨t, l, rfl⟩ : ∃ (t : Fin cfg0.N) (l : Fin 512), j = wcol t l :=
    ⟨⟨j.val / 512, lt_of_lt_of_eq (by omega) (show (14 : ℕ) = cfg0.N from N_0.symm)⟩, ⟨j.val % 512, by omega⟩, Fin.ext (by
      show j.val = j.val / 512 * 512 + j.val % 512
      omega)⟩
  rw [final3]
  refine (dxOf_apply _ _ _ (fun s j => ?_) i l).trans ?_
  · rw [iblk2]; exact hS _ _
  unfold prod wt
  apply Finset.sum_congr rfl
  intro k _
  rw [iblk1, iblk2]
  unfold X0
  rw [iblk0, deqOf_apply _ hX]
  rfl

end

end Cert.KernelIdeal.Body

end
-- ==== Proof.RefValue.lean ====
/- The reference's results, element by element. -/
module

public import proofs.«01_k».proof.Proof.Spec
public import proofs.«01_k».proof.Proof.Gen.ReferenceIdeal.Value
public import Idealize.ShloMosaic.Lib.WordSum

@[expose] public section

set_option maxRecDepth 16384

noncomputable section

namespace Cert.ReferenceIdeal.Val

open Idealize.ShloMosaic Idealize.ShloMosaic.TcCoe
open Cert.ReferenceIdeal.Gen Cert.Mx

/-- A vector's elements by row and column. -/
def el (X : Vec Ideal S256x4608 .bf16) (i : Fin 256) (j : Fin 4608) : EReal := X (ix2 i j)

theorem pay2_apply (X : Vec Ideal S256x4608 .bf16) (i : Fin 256) (s : Fin 144) (k : Fin 32) : k0_pay2 X (ix3 i s k) = el X i (at32 s k) := by
  have h : k0_pay2 X (ix3 i s k) = X (ix2 i ⟨s.val * 32 + k.val, by omega⟩) := by
    unfold k0_pay2
    pointwise
  rw [h]
  unfold el at32
  congr 2
  apply Fin.ext
  show s.val * 32 + k.val = 32 * s.val + k.val
  omega

/-- Adding up ones and zeros counts. -/
theorem fold_addi {ι : Type} (T : Finset ι) (p : ι → Prop) [DecidablePred p] :
    T.fold IntOp.addi (0#32) (fun x => BitVec.setWidth 32 (BitVec.ofBool (decide (p x)))) = BitVec.ofNat 32 (T.filter p).card := by
  classical
  induction T using Finset.induction_on with
  | empty => rfl
  | insert a T ha ih =>
    rw [Finset.fold_insert ha, ih, Finset.filter_insert]
    by_cases hp : p a
    · rw [if_pos hp, Finset.card_insert_of_notMem (by simp [ha])]
      simp only [hp, decide_true]
      show BitVec.setWidth 32 (BitVec.ofBool true) + BitVec.ofNat 32 _ = _
      rw [Nat.add_comm, BitVec.ofNat_add]
      rfl
    · rw [if_neg hp]
      simp only [hp, decide_false]
      show BitVec.setWidth 32 (BitVec.ofBool false) + BitVec.ofNat 32 _ = _
      exact BitVec.zero_add _

/-- The maximum over a block, as the reference takes it. -/
theorem fold_amax (X : Vec Ideal S256x4608 .bf16) (i : Fin 256) (s : Fin 144) :
    Finset.fold max (Ideal.ofBits FTy.f32 4286578688#32) (fun k => FloatOps.absf (k0_pay2 X (ix3 i s k))) Finset.univ = amax (el X) i s := by
  have hb : Ideal.ofBits FTy.f32 4286578688#32 = ⊥ := by
    rw [ofBits_f32]; unfold Ideal.ieee; simp
  rw [hb]
  unfold amax
  congr 1
  funext k
  rw [pay2_apply]
  rfl

/-- The power of two of entry `k` of the reference's table. -/
theorem table_pow (k : Fin 254) : FloatOps.exp2 (F := Ideal) (FloatOps.sitofp FTy.f32 (IntOp.subi (BitVec.ofNat 32 k.val) 126#32)) = pw (k.val + 1) := by
  have h : ∀ k : Fin 254, (IntOp.subi (BitVec.ofNat 32 k.val) 126#32).toInt = (k.val : ℤ) - 126 := by decide +kernel
  show Ideal.exp2 (((IntOp.subi (BitVec.ofNat 32 k.val) 126#32).toInt : ℝ) : EReal) = _
  rw [h, exp2_int]
  congr 1
  omega

theorem pay3_apply (X : Vec Ideal S256x4608 .bf16) (i : Fin 256) (s : Fin 144) : k0_pay3 X (ix2 i s) = ex (el X) i s := by
  have h : k0_pay3 X (ix2 i s) = if
        Finset.fold max (Ideal.ofBits FTy.f32 4286578688#32) (fun x => FloatOps.absf (k0_pay2 X (ix3 i s x))) Finset.univ
          * Ideal.ofBits FTy.f32 991054117#32 = 0 then 0#32
      else IntOp.subi (Finset.fold IntOp.addi (0#32) (fun x : Fin 254 => BitVec.setWidth 32 (BitVec.ofBool (decide
                  (FloatOps.exp2 (FloatOps.sitofp FTy.f32 (IntOp.subi (BitVec.ofNat 32 x.val) 126#32)) ≤
                    Finset.fold max (Ideal.ofBits FTy.f32 4286578688#32) (fun x => FloatOps.absf (k0_pay2 X (ix3 i s x))) Finset.univ
                      * Ideal.ofBits FTy.f32 991054117#32)))) Finset.univ) 126#32 := by
    unfold k0_pay3
    pointwise
  rw [h, fold_amax, fold_addi]
  simp only [table_pow]
  show _ = Scalar.select (BitVec.ofBool (decide (rat (el X) i s = 0))) _ _
  change (if rat (el X) i s = 0 then _ else _) = _
  by_cases h0 : rat (el X) i s = 0
  · rw [if_pos h0]; simp only [h0, decide_true]; rfl
  · rw [if_neg h0]; simp only [h0, decide_false]; rfl

theorem pay4_apply (X : Vec Ideal S256x4608 .bf16) (i : Fin 256) (j : Fin 4608) :
    k0_pay4 X (ix3 i ⟨j.val / 32, by omega⟩ ⟨j.val % 32, by omega⟩) = code (el X) i j := by
  have h (s : Fin 144) (k : Fin 32) : k0_pay4 X (ix3 i s k) = min (Ideal.ofBits FTy.f32 1138753536#32)
      (max (Ideal.ofBits FTy.f32 3286237184#32)
        (k0_pay2 X (ix3 i s k) * FloatOps.exp2 (0 - FloatOps.sitofp FTy.f32 (k0_pay3 X (ix2 i s))))) := by
    unfold k0_pay4
    pointwise
  rw [h, pay2_apply, pay3_apply]
  have hj : at32 ⟨j.val / 32, by omega⟩ ⟨j.val % 32, by omega⟩ = j := by
    apply Fin.ext
    show 32 * (j.val / 32) + j.val % 32 = j.val
    omega
  rw [hj]
  rfl

theorem pay5_apply (X : Vec Ideal S256x4608 .bf16) (i : Fin 256) (j : Fin 4608) : k0_pay5 X (ix2 i j) = code (el X) i j := by
  rw [← pay4_apply]
  unfold k0_pay5
  pointwise

theorem pay6_apply (X : Vec Ideal S256x4608 .bf16) (i : Fin 256) (s : Fin 144) : k0_pay6 X (ix2 i s) = byte (el X) i s := by
  unfold byte
  rw [← pay3_apply]
  unfold k0_pay6
  pointwise

/-- The power of two of an integer. -/
def p2 (e : BitVec 32) : EReal := Ideal.exp2 ((e.toInt : ℝ) : EReal)

theorem pay1_apply (X : Vec Ideal S256x4608 .bf16) (S : Vec Ideal S144x7168 .i8) (W : Vec Ideal S4608x7168 .fp8e4m3) (i : Fin 256) (j : Fin 7168) :
    k0_pay1 (k0_pay3 X) (k0_pay4 X) S W (ix2 i j) = prod (el X) (fun k j => W (ix2 k j)) (fun s j => S (ix2 s j)) i j := by
  have h (E : IVec S256x144 32) (C : FVec Ideal S256x144x32 .fp8e4m3) : k0_pay1 E C S W (ix2 i j) = ∑ x : Fin 4608,
      C (ix3 i ⟨x.val / 32, by omega⟩ ⟨x.val % 32, by omega⟩) * p2 (E (ix2 i ⟨x.val / 32, by omega⟩)) *
        (W (ix2 x j) * p2 (IntOp.subi (BitVec.setWidth 32 (S (ix2 ⟨x.val / 32, by omega⟩ j))) 127#32)) := by
    unfold k0_pay1
    pointwise <;> rfl
  rw [h]
  unfold prod
  apply Finset.sum_congr rfl
  intro k _
  rw [pay4_apply, pay3_apply]
  rfl

end Cert.ReferenceIdeal.Val

end
-- ==== Proof.RefArrays.lean ====
/- The reference's result arrays, element by element. -/
module

public import proofs.«01_k».proof.Proof.RefValue
public import Idealize.ShloMosaic.Lib.Claim

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.ReferenceIdeal.Value Cert.Mx

theorem hz : (![0, 0] : Fin 2 → Nat) = fun _ => 0 := funext fun a => by fin_cases a <;> rfl

section
variable (X : Vec Ideal S256x4608 .bf16) (W : Vec Ideal S4608x7168 .fp8e4m3) (S : Vec Ideal S144x7168 .i8)

theorem out3_apply (i : Fin 256) (j : Fin 7168) :
    out0_3 X W S (ix2 i j) = prod (el X) (fun k j => W (ix2 k j)) (fun s j => S (ix2 s j)) i j := by
  rw [← pay1_apply]
  unfold out0_3
  rw [View.canon_unit_zero hz, View.ld_unit_zero hz, View.ld_unit_zero hz, View.ld_unit_zero hz]

theorem out4_apply (i : Fin 256) (j : Fin 4608) : out0_4 X W S (ix2 i j) = code (el X) i j := by
  rw [← pay5_apply]
  unfold out0_4
  rw [View.canon_unit_zero hz, View.ld_unit_zero hz]

theorem out5_apply (i : Fin 256) (s : Fin 144) : out0_5 X W S (ix2 i s) = byte (el X) i s := by
  rw [← pay6_apply]
  unfold out0_5
  rw [View.canon_unit_zero hz, View.ld_unit_zero hz]
end

variable (m : (ℓ : Loc nD τ sig) → Buf (Elt Ideal) ℓ)

theorem iblk0 (c : Dev nD) (t : Fin cfg0.N) : iblk m c 0 t = V m c main_v0 := by
  rcases fin_N0 t with rfl
  funext y
  show V m c main_v0 ((win0_0.rect t0_0).emb y) = _
  congr 1
  funext a
  apply Fin.ext
  exact win0_0.rect_emb_val_of_index_zero t0_0 a (by fin_cases a <;> rfl) y

theorem iblk1 (c : Dev nD) (t : Fin cfg0.N) : iblk m c 1 t = V m c main_arg1 := by
  rcases fin_N0 t with rfl
  funext y
  show V m c main_arg1 ((win0_1.rect t0_0).emb y) = _
  congr 1
  funext a
  apply Fin.ext
  exact win0_1.rect_emb_val_of_index_zero t0_0 a (by fin_cases a <;> rfl) y

theorem iblk2 (c : Dev nD) (t : Fin cfg0.N) : iblk m c 2 t = V m c main_arg2 := by
  rcases fin_N0 t with rfl
  funext y
  show V m c main_arg2 ((win0_2.rect t0_0).emb y) = _
  congr 1
  funext a
  apply Fin.ext
  exact win0_2.rect_emb_val_of_index_zero t0_0 a (by fin_cases a <;> rfl) y

/-- The operand as the region finds it: the first argument with its leading axes merged. -/
theorem V_v0 (c : Dev nD) : V m c main_v0 = shapeCast S256x4608 (m ((c : Thread nD τ).loc main_arg0)) shapeCasts_S2x128x4608_S256x4608 := by
  entry_read
  rfl

theorem final3 (c : Dev nD) : (dats m 0 c).arrAt 3 cfg0.N = out0_3 (V m c main_v0) (V m c main_arg1) (V m c main_arg2) := by
  funext y
  have h := congrFun (blocks3 m c t0_0 (by rfl)) y
  rw [flushed3, iblk0, iblk1, iblk2] at h
  refine Eq.trans ?_ h
  show _ = (dats m 0 c).arrAt 3 cfg0.N ((win0_3.rect t0_0).emb y)
  congr 1
  funext a
  apply Fin.ext
  exact (win0_3.rect_emb_val_of_index_zero t0_0 a (by fin_cases a <;> rfl) y).symm

theorem final4 (c : Dev nD) : (dats m 0 c).arrAt 4 cfg0.N = out0_4 (V m c main_v0) (V m c main_arg1) (V m c main_arg2) := by
  funext y
  have h := congrFun (blocks4 m c t0_0 (by rfl)) y
  rw [flushed4, iblk0, iblk1, iblk2] at h
  refine Eq.trans ?_ h
  show _ = (dats m 0 c).arrAt 4 cfg0.N ((win0_4.rect t0_0).emb y)
  congr 1
  funext a
  apply Fin.ext
  exact (win0_4.rect_emb_val_of_index_zero t0_0 a (by fin_cases a <;> rfl) y).symm

theorem final5 (c : Dev nD) : (dats m 0 c).arrAt 5 cfg0.N = out0_5 (V m c main_v0) (V m c main_arg1) (V m c main_arg2) := by
  funext y
  have h := congrFun (blocks5 m c t0_0 (by rfl)) y
  rw [flushed5, iblk0, iblk1, iblk2] at h
  refine Eq.trans ?_ h
  show _ = (dats m 0 c).arrAt 5 cfg0.N ((win0_5.rect t0_0).emb y)
  congr 1
  funext a
  apply Fin.ext
  exact (win0_5.rect_emb_val_of_index_zero t0_0 a (by fin_cases a <;> rfl) y).symm

end Cert.ReferenceIdeal.Val

end
-- ==== Proof.Range.lean ====
/- What the precondition says of the arguments. -/
module

public import proofs.«01_k».proof.Proof.Spec
public import proofs.«01_k».proof.Pre_in_range
public import Idealize.ShloMosaic.Lib.ReduceAll
public import Idealize.ShloMosaic.Lib.StableHlo.Predicate

@[expose] public section

noncomputable section

namespace Cert.Mx

open Idealize.ShloMosaic Idealize.ShloMosaic.TcCoe Idealize.ShloMosaic.StableHlo
open Cert.Pre_in_range

theorem ofBits_big : Ideal.ofBits .f32 0x7F7F0000#32 = ((255 * 2 ^ 120 : ℝ) : EReal) := by
  have he : (BitVec.extractLsb' 23 8 0x7F7F0000#32).toNat = 254 := by decide +kernel
  have hf : (BitVec.extractLsb' 0 23 0x7F7F0000#32).toNat = 8323072 := by decide +kernel
  have hs : (BitVec.extractLsb' (8 + 23) 1 0x7F7F0000#32 == 1#1) = false := by decide +kernel
  rw [ofBits_f32]
  unfold Ideal.ieee
  simp only [he, hf, hs]
  norm_num

theorem ofBits_inv : Ideal.ofBits .f32 0x3B124925#32 = ((9586981 / 2 ^ 32 : ℝ) : EReal) := by
  have he : (BitVec.extractLsb' 23 8 0x3B124925#32).toNat = 118 := by decide +kernel
  have hf : (BitVec.extractLsb' 0 23 0x3B124925#32).toNat = 1198373 := by decide +kernel
  have hs : (BitVec.extractLsb' (8 + 23) 1 0x3B124925#32 == 1#1) = false := by decide +kernel
  rw [ofBits_f32]
  unfold Ideal.ieee
  simp only [he, hf, hs]
  norm_num

/-- Absolute values at most `0x7F7F0000` keep every block's exponent in range. -/
theorem inRange_of (x : Fin 256 → Fin 4608 → EReal) (h : ∀ i j, max (x i j) (-(x i j)) ≤ Ideal.ofBits .f32 0x7F7F0000#32) : InRange x := by
  intro i s
  have ha : amax x i s ≤ Ideal.ofBits .f32 0x7F7F0000#32 := (amax_le x i s _).mpr fun k => h _ _
  have hc : (0 : EReal) ≤ Ideal.ofBits .f32 0x3B124925#32 := by
    rw [ofBits_inv]
    exact EReal.coe_nonneg.mpr (by positivity)
  refine lt_of_le_of_lt (mul_le_mul_of_nonneg_right ha hc) ?_
  rw [ofBits_big, ofBits_inv]
  unfold pw
  rw [← EReal.coe_mul, EReal.coe_lt_coe_iff]
  norm_num

instance : Subsingleton S_.Idx := ⟨fun a b => funext fun i => i.elim0⟩

variable [Facts]

theorem pre_apply (a : FVec Ideal S2x128x4608 .bf16) (w : FVec Ideal S4608x7168 .fp8e4m3) (s : IVec S144x7168 8)
    (h : fn (F := Ideal) a w s = fun _ => 1#1) :
    (∀ y : S2x128x4608.Idx, max (a y : EReal) (-(a y : EReal)) ≤ Ideal.ofBits .f32 0x7F7F0000#32)
      ∧ ∀ y : S144x7168.Idx, 1 ≤ (s y).toNat ∧ (s y).toNat ≤ 254 := by
  have andi_one : ∀ p q : BitVec 1, IntOp.andi p q = 1#1 → p = 1#1 ∧ q = 1#1 := by decide
  have h0 := congrFun h (fun i => i.elim0)
  unfold fn at h0
  obtain ⟨h1, h2⟩ := andi_one _ _ h0
  refine ⟨fun y => ?_, fun y => ?_⟩
  · have hy := Host.reduce_andi_all _ _ _ _ _ h1 y
    have hy' : BitVec.ofBool (decide (max (a y : EReal) (-(a y : EReal)) ≤ Ideal.ofBits .f32 0x7F7F0000#32)) = 1#1 := hy
    exact of_decide_eq_true ((Predicate.ofBool_eq_one_iff _).mp hy')
  · have hy := Host.reduce_andi_all _ _ _ _ _ h2 y
    have hb : ∀ b : BitVec 8, IntOp.andi (IntOp.cmpi .sge (b.setWidth 32) 1#32) (IntOp.cmpi .sle (b.setWidth 32) 254#32) = 1#1 →
        1 ≤ b.toNat ∧ b.toNat ≤ 254 := by decide +kernel
    exact hb (s y) hy

end Cert.Mx

end
-- ==== Proof.Algebraic.lean ====
/- The kernel and the reference end with the same three arrays. -/
module

public import proofs.«01_k».proof.Defs
public import proofs.«01_k».proof.Proof.KerArrays
public import proofs.«01_k».proof.Proof.RefArrays
public import proofs.«01_k».proof.Proof.Range
public import proofs.«01_k».proof.Proof.Gen.Pre_in_range

@[expose] public section

set_option maxRecDepth 16384

noncomputable section

namespace Cert.Algebraic

open Idealize.ShloMosaic Idealize.ShloMosaic.TcCoe Idealize.SL.Sem
open Cert.Mx

/-- The kernel's run, each result array named, the arguments unchanged. -/
theorem kernel_run (m : (ℓ : Loc KernelIdeal.nD KernelIdeal.τ KernelIdeal.sig) → Buf (Elt Ideal) ℓ) (ρ : Dev KernelIdeal.nD → PrngReg) :
    θ_run (KernelIdeal.defs (F := Ideal)) (onTc (τ := KernelIdeal.τ) (KernelIdeal.main (F := Ideal))) ⟨m, fun _ => 0, ρ⟩ fun r => ∀ c : Dev KernelIdeal.nD,
      r.2.mem ((c : Thread KernelIdeal.nD KernelIdeal.τ).loc KernelIdeal.main_v1_0) = (KernelIdeal.Body.dats m 0 c).arrAt 3 KernelIdeal.cfg0.N
      ∧ r.2.mem ((c : Thread KernelIdeal.nD KernelIdeal.τ).loc KernelIdeal.main_v1_1) = (KernelIdeal.Body.dats m 0 c).arrAt 4 KernelIdeal.cfg0.N
      ∧ r.2.mem ((c : Thread KernelIdeal.nD KernelIdeal.τ).loc KernelIdeal.main_v1_2) = (KernelIdeal.Body.dats m 0 c).arrAt 5 KernelIdeal.cfg0.N
      ∧ r.2.mem ((c : Thread KernelIdeal.nD KernelIdeal.τ).loc KernelIdeal.main_arg0) = m ((c : Thread KernelIdeal.nD KernelIdeal.τ).loc KernelIdeal.main_arg0)
      ∧ r.2.mem ((c : Thread KernelIdeal.nD KernelIdeal.τ).loc KernelIdeal.main_arg1) = m ((c : Thread KernelIdeal.nD KernelIdeal.τ).loc KernelIdeal.main_arg1)
      ∧ r.2.mem ((c : Thread KernelIdeal.nD KernelIdeal.τ).loc KernelIdeal.main_arg2) = m ((c : Thread KernelIdeal.nD KernelIdeal.τ).loc KernelIdeal.main_arg2) :=
  (θ_run KernelIdeal.defs _ _).mono (fun _ h c => ⟨(h.1 c).1 3, (h.1 c).1 4, (h.1 c).1 5, h.2 c⟩)
    (θ_run_and (KernelIdeal.Body.run_main m ρ) (KernelIdeal.Body.unchanged m ρ))

/-- An element of a reshaped array is an element of the array. -/
theorem shapeCast_bound {s t : Shape} (X : s.Idx → EReal) (h : s.ShapeCasts t) (P : EReal → Prop) (hP : ∀ y, P (X y)) (y : t.Idx) :
    P (shapeCast t X h y) := hP _

section
variable (m : (ℓ : Loc KernelIdeal.nD KernelIdeal.τ KernelIdeal.sig) → Buf (Elt Ideal) ℓ) (hpre : Cert.Pre_KernelIdeal_in_range m)
include hpre

/-- The precondition puts every block's exponent in range, -/
theorem inRange (c : Dev KernelIdeal.nD) : InRange (KernelIdeal.Body.el (KernelIdeal.Gen.V m c KernelIdeal.main_v0)) := by
  apply inRange_of
  intro i j
  unfold KernelIdeal.Body.el
  rw [KernelIdeal.Body.V_v0]
  exact shapeCast_bound (s := KernelIdeal.S2x128x4608) (t := KernelIdeal.S256x4608) _ _
    (fun v => max v (-v) ≤ Ideal.ofBits .f32 0x7F7F0000#32) (pre_apply _ _ _ (hpre c)).1 _

/-- and every scale byte between 1 and 254. -/
theorem bytes (c : Dev KernelIdeal.nD) (s : Fin 144) (j : Fin 7168) :
    1 ≤ (KernelIdeal.Gen.V m c KernelIdeal.main_arg2 (ix2 s j)).toNat ∧ (KernelIdeal.Gen.V m c KernelIdeal.main_arg2 (ix2 s j)).toNat ≤ 254 := by
  rw [KernelIdeal.Gen.V_main_arg2]
  exact (pre_apply _ _ _ (hpre c)).2 (ix2 s j)
end

/-- Under the precondition, from equal arguments, the two programs end with equal results. -/
theorem algebraic : Cert.algebraic_KernelIdeal_ReferenceIdeal_pre_in_range := by
  intro m g m' g' hpre hargs
  refine ⟨fun c => (KernelIdeal.Body.dats m 0 c).arrAt 3 KernelIdeal.cfg0.N, fun c => (KernelIdeal.Body.dats m 0 c).arrAt 4 KernelIdeal.cfg0.N,
    fun c => (KernelIdeal.Body.dats m 0 c).arrAt 5 KernelIdeal.cfg0.N, kernel_run m g, ?_⟩
  refine (θ_run ReferenceIdeal.defs _ _).mono (fun r h c => ?_) (ReferenceIdeal.Value.run_blocks m' g')
  obtain ⟨h3, h4, h5, hk⟩ := h c
  have hX := inRange m hpre c
  have hv0 : ReferenceIdeal.Gen.V m' c ReferenceIdeal.main_v0 = KernelIdeal.Gen.V m c KernelIdeal.main_v0 := by
    rw [ReferenceIdeal.Val.V_v0, KernelIdeal.Body.V_v0, (hargs c).1]
  have hv1 : ReferenceIdeal.Gen.V m' c ReferenceIdeal.main_arg1 = KernelIdeal.Gen.V m c KernelIdeal.main_arg1 := by
    rw [ReferenceIdeal.Gen.V_main_arg1, KernelIdeal.Gen.V_main_arg1, (hargs c).2.1]
  have hv2 : ReferenceIdeal.Gen.V m' c ReferenceIdeal.main_arg2 = KernelIdeal.Gen.V m c KernelIdeal.main_arg2 := by
    rw [ReferenceIdeal.Gen.V_main_arg2, KernelIdeal.Gen.V_main_arg2, (hargs c).2.2]
  refine ⟨h3.trans ?_, h4.trans ?_, h5.trans ?_, hk⟩
  · rw [ReferenceIdeal.Val.final3, hv0, hv1, hv2]
    funext y
    obtain ⟨i, j, rfl⟩ : ∃ (i : Fin 256) (j : Fin 7168), y = ix2 i j := ⟨y 0, y 1, eq_ix2 y⟩
    exact (ReferenceIdeal.Val.out3_apply _ _ _ i j).trans (KernelIdeal.Body.arr3 m c hX (bytes m hpre c) i j).symm
  · rw [ReferenceIdeal.Val.final4, hv0, hv1, hv2]
    funext y
    obtain ⟨i, j, rfl⟩ : ∃ (i : Fin 256) (j : Fin 4608), y = ix2 i j := ⟨y 0, y 1, eq_ix2 y⟩
    exact (ReferenceIdeal.Val.out4_apply _ _ _ i j).trans (KernelIdeal.Body.arr4 m c hX i j).symm
  · rw [ReferenceIdeal.Val.final5, hv0, hv1, hv2]
    funext y
    obtain ⟨i, s, rfl⟩ : ∃ (i : Fin 256) (s : Fin 144), y = ix2 i s := ⟨y 0, y 1, eq_ix2 y⟩
    exact (ReferenceIdeal.Val.out5_apply _ _ _ i s).trans (KernelIdeal.Body.arr5 m c hX i s).symm

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.BitsFrame
public import proofs.«01_k».proof.Proof.Frame
public import proofs.«01_k».proof.Proof.Algebraic
public import proofs.«01_k».proof.Proof.Gen.Pre_in_range
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  fun m ρ _ => Cert.Kernel.Body.frame m ρ,
  fun m ρ _ => Cert.KernelIdeal.Body.frame m ρ,
  fun m ρ _ => Cert.KernelIdeal.Body.frame m ρ,
  fun m ρ _ => Cert.ReferenceIdeal.Gen.frame m ρ,
  fun m ρ _ => Cert.ReferenceIdeal.Gen.frame m ρ,
  trivial,
  Cert.Algebraic.algebraic⟩

end Cert.Proof

end
